-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x100000 .f32) (main_arg1 : IVec S1024 32) (main_arg2 : IVec S_ 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 1 := constantI S_ 1 1#1
  let main_v2 : IVec S_ 1 := (fun x v => Host.reduce IntOp.andi x v reducesTo_S1024_S_d0 h_S_) main_v1 main_c_0
  let main_c_1 : IVec S_ 32 := constantI S_ 32 100000#32
  let main_v3 : IVec S1024 32 := broadcastInDim S1024 ![] bcast_S_S1024 main_c_1
  let main_v4 : IVec S1024 1 := cmpi .slt main_arg1 main_v3
  let main_c_2 : IVec S_ 1 := constantI S_ 1 1#1
  let main_v5 : IVec S_ 1 := (fun x v => Host.reduce IntOp.andi x v reducesTo_S1024_S_d0 h_S_) main_v4 main_c_2
  let main_v6 : IVec S_ 1 := andi main_v2 main_v5
  let main_c_3 : IVec S_ 32 := constantI S_ 32 0#32
  let main_v7 : IVec S_ 1 := cmpi .sge main_arg2 main_c_3
  let main_v8 : IVec S_ 1 := andi main_v6 main_v7
  let main_c_4 : IVec S_ 32 := constantI S_ 32 100000#32
  let main_v9 : IVec S_ 1 := cmpi .slt main_arg2 main_c_4
  let main_v10 : IVec S_ 1 := andi main_v8 main_v9
  main_v10
-- ==== Kernel.lean ====
abbrev S1024x100000 : Shape := ⟨2, ![1024, 100000]⟩
abbrev S1024 : Shape := ⟨1, ![1024]⟩
abbrev S_ : Shape := ⟨0, ![]⟩
abbrev S8x128x12500x8 : Shape := ⟨4, ![8, 128, 12500, 8]⟩
abbrev S12500x8x8x128 : Shape := ⟨4, ![12500, 8, 8, 128]⟩
abbrev S102400000 : Shape := ⟨1, ![102400000]⟩
abbrev S16 : Shape := ⟨1, ![16]⟩
abbrev S64 : Shape := ⟨1, ![64]⟩
abbrev S1 : Shape := ⟨1, ![1]⟩

abbrev nBuf : Table → Nat
  | .hbm => 8
  | .local .scVector .vmem => 6
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S_, .i32⟩
  | .hbm, ⟨3, _⟩ => ⟨S8x128x12500x8, .f32⟩
  | .hbm, ⟨4, _⟩ => ⟨S12500x8x8x128, .f32⟩
  | .hbm, ⟨5, _⟩ => ⟨S102400000, .f32⟩
  | .hbm, ⟨6, _⟩ => ⟨S16, .i32⟩
  | .hbm, ⟨7, _⟩ => ⟨S1024, .f32⟩
  | .local .scVector .vmem, ⟨0, _⟩ => ⟨S64, .i32⟩
  | .local .scVector .vmem, ⟨1, _⟩ => ⟨S16, .i32⟩
  | .local .scVector .vmem, ⟨2, _⟩ => ⟨S64, .i32⟩
  | .local .scVector .vmem, ⟨3, _⟩ => ⟨S64, .f32⟩
  | .local .scVector .vmem, ⟨4, _⟩ => ⟨S64, .f32⟩
  | .local .scVector .vmem, ⟨5, _⟩ => ⟨S64, .f32⟩
  | _, _ => ⟨S1024x100000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v2_scv : Ref sig .scVector := ⟨.hbm, 5, rfl⟩
abbrev main_arg1_scv : Ref sig .scVector := ⟨.hbm, 1, rfl⟩
abbrev main_v3_scv : Ref sig .scVector := ⟨.hbm, 6, rfl⟩
abbrev main_v4_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
def k0_mult1 (i : grid0.Coords) (v8 : BitVec 32) : BitVec 32 :=
  let c3_i32 : BitVec 32 := 3#32
  let v9 : BitVec 32 := Scalar.shrsi v8 c3_i32
  let c13_i32 : BitVec 32 := 13#32
  let v10 : BitVec 32 := Scalar.shli v9 c13_i32
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c64_i32 : BitVec 32 := 64#32
  let v2 : BitVec 32 := Scalar.muli v1 c64_i32
  let c7_i32 : BitVec 32 := 7#32
  let v11 : BitVec 32 := Scalar.shrsi v2 c7_i32
  let c10_i32 : BitVec 32 := 10#32
  let v12 : BitVec 32 := Scalar.shli v11 c10_i32
  let v13 : BitVec 32 := Scalar.addi v10 v12
  let c7_i32_0 : BitVec 32 := 7#32
  let v14 : BitVec 32 := Scalar.andi v8 c7_i32_0
  let c7_i32_1 : BitVec 32 := 7#32
  let v15 : BitVec 32 := Scalar.shli v14 c7_i32_1
  let v16 : BitVec 32 := Scalar.addi v13 v15
  let c127_i32 : BitVec 32 := 127#32
  let v17 : BitVec 32 := Scalar.andi v2 c127_i32
  let v18 : BitVec 32 := Scalar.addi v16 v17
  v18

def k0_off2 (i : grid0.Coords) (v8 : BitVec 32) : Fin 1 → Nat :=
  let c3_i32 : BitVec 32 := 3#32
  let v9 : BitVec 32 := Scalar.shrsi v8 c3_i32
  let c13_i32 : BitVec 32 := 13#32
  let v10 : BitVec 32 := Scalar.shli v9 c13_i32
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c64_i32 : BitVec 32 := 64#32
  let v2 : BitVec 32 := Scalar.muli v1 c64_i32
  let c7_i32 : BitVec 32 := 7#32
  let v11 : BitVec 32 := Scalar.shrsi v2 c7_i32
  let c10_i32 : BitVec 32 := 10#32
  let v12 : BitVec 32 := Scalar.shli v11 c10_i32
  let v13 : BitVec 32 := Scalar.addi v10 v12
  let c7_i32_0 : BitVec 32 := 7#32
  let v14 : BitVec 32 := Scalar.andi v8 c7_i32_0
  let c7_i32_1 : BitVec 32 := 7#32
  let v15 : BitVec 32 := Scalar.shli v14 c7_i32_1
  let v16 : BitVec 32 := Scalar.addi v13 v15
  let c127_i32 : BitVec 32 := 127#32
  let v17 : BitVec 32 := Scalar.andi v2 c127_i32
  let v18 : BitVec 32 := Scalar.addi v16 v17
  let v19 : BitVec 32 := v18
  ![v19.toNat]

def k0_chk1 (i : grid0.Coords) (v8 : BitVec 32) : Prop :=
  (32 ∣ (k0_mult1 i v8).toNat) ∧
  (∀ a, (k0_off2 i v8) a + S64.size a ≤ S102400000.size a)
theorem k0_mult1_dvd : ∀ (i : grid0.Coords) (v8 : BitVec 32) (k0_hw1 : k0_chk1 i v8), 32 ∣ (k0_mult1 i v8).toNat := fun i v8 k0_hw1 => k0_hw1.1
theorem k0_off2_inb : ∀ (i : grid0.Coords) (v8 : BitVec 32) (k0_hw1 : k0_chk1 i v8), ∀ a, (k0_off2 i v8) a + S64.size a ≤ S102400000.size a := fun i v8 k0_hw1 => k0_hw1.2

def k0_off3 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x100000 : Shape := ⟨2, ![1024, 100000]⟩
abbrev S1024 : Shape := ⟨1, ![1024]⟩
abbrev S_ : Shape := ⟨0, ![]⟩
abbrev S1024x1 : Shape := ⟨2, ![1024, 1]⟩
abbrev S1024x2 : Shape := ⟨2, ![1024, 2]⟩

abbrev nBuf : Space → Nat
  | .hbm => 42
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S_, .i32⟩
  | .hbm, ⟨3, _⟩ => ⟨S1024, .i32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S1024, .i32⟩
  | .hbm, ⟨19, _⟩ => ⟨S1024x1, .i32⟩
  | .hbm, ⟨20, _⟩ => ⟨S1024x1, .i32⟩
  | .hbm, ⟨21, _⟩ => ⟨S1024x2, .i32⟩
  | .hbm, ⟨22, _⟩ => ⟨S1024, .f32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S1024, .i32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1024, .i32⟩
  | .hbm, ⟨37, _⟩ => ⟨S1024x1, .i32⟩
  | .hbm, ⟨38, _⟩ => ⟨S1024x1, .i32⟩
  | .hbm, ⟨39, _⟩ => ⟨S1024x2, .i32⟩
  | .hbm, ⟨40, _⟩ => ⟨S1024, .f32⟩
  | .hbm, ⟨41, _⟩ => ⟨S1024, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_5 : Ref sig .tc := ⟨.hbm, 30, rfl⟩
abbrev main_v21 : Ref sig .tc := ⟨.hbm, 31, rfl⟩
abbrev main_v22 : Ref sig .tc := ⟨.hbm, 32, rfl⟩
abbrev main_c_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Words.lean ====
/-
  The flat position of an element of the logits, as a number and as the 32-bit word the tasks compute.

  The kernel reads the logits through one flat array of 102,400,000 elements, in which class `v` of batch row `b`
  stands at `pos v b`. A task computes that position for a label (16 lanes at a time) and for the target (as a scalar).
  Both computations are shown to give `pos`, and the scalar one to pass the check the body makes of it.
-/
module

public import Idealize.ShloMosaic.Lib.ValueIdxCore
public import proofs.«01_k».proof.Proof.Gen.KernelIdeal
public import proofs.«01_k».proof.Proof.Gen.KernelIdeal.Skeleton

@[expose] public section

noncomputable section

namespace Cert.Proof.Words

open Cert.KernelIdeal Cert.KernelIdeal.Gen
open Idealize.ShloMosaic Idealize.ShloMosaic.ValueIdx

/-! ## The position as a number -/

/-- Where class `v` of batch row `b` stands in the flat array. -/
def pos (v b : ℕ) : ℕ := v / 8 * 8192 + b / 128 * 1024 + v % 8 * 128 + b % 128

/-- Positions of classes and rows that exist lie in the array. -/
theorem pos_lt {v b : ℕ} (hv : v < 100000) (hb : b < 1024) : pos v b < 102400000 := by unfold pos; omega

/-- Sixty-four rows that start at a multiple of 64 lie next to one another in the flat array. -/
theorem pos_block (v g k : ℕ) (hk : k < 64) : pos v (64 * g + k) = pos v (64 * g) + k := by unfold pos; omega

/-! ## The position as a word -/

/-- The word a task computes from the word `w` of a class and the word `b` of a row. -/
def posW (w b : BitVec 32) : BitVec 32 :=
  ((w >>> (3#32)) <<< (13#32) + (b >>> (7#32)) <<< (10#32)) + ((w &&& 7#32) <<< (7#32)) + (b &&& 127#32)

/-- Keeping the three low bits is the remainder by 8. -/
theorem and7 (n : ℕ) : n &&& 7 = n % 8 := Nat.and_two_pow_sub_one_eq_mod n 3
/-- Keeping the seven low bits is the remainder by 128. -/
theorem and127 (n : ℕ) : n &&& 127 = n % 128 := Nat.and_two_pow_sub_one_eq_mod n 7

/-- The word is the position: nothing overflows. -/
theorem posW_toNat {w b : BitVec 32} (hw : w.toNat < 100000) (hb : b.toNat < 1024) : (posW w b).toNat = pos w.toNat b.toNat := by
  unfold posW pos
  simp only [BitVec.toNat_add, BitVec.shiftLeft_eq', BitVec.ushiftRight_eq', BitVec.toNat_shiftLeft, BitVec.toNat_ushiftRight,
    BitVec.toNat_and, BitVec.toNat_ofNat, Nat.shiftRight_eq_div_pow, Nat.shiftLeft_eq, Nat.reducePow, Nat.reduceMod, and7, and127]
  omega

/-- On a word with a clear sign bit the arithmetic right shift is the logical one. -/
theorem sshift_eq {w n : BitVec 32} (hw : w.toNat < 2147483648) : w.sshiftRight' n = w >>> n := by
  rw [BitVec.sshiftRight', BitVec.sshiftRight_eq_of_msb_false (by rw [BitVec.msb_eq_false_iff_two_mul_lt]; omega)]; rfl

/-! ## The first row of a task -/

/-- The word of the first row of the task at coordinates `i`. -/
def baseW (i : grid0.Coords) : BitVec 32 :=
  (BitVec.ofNat 32 (i 1).val * 1#32 + BitVec.ofNat 32 (i 0).val) * 64#32

/-- The task's rows start at 64 times its number. -/
theorem baseW_toNat (i : grid0.Coords) : (baseW i).toNat = 64 * (i 1).val := by
  have h0 : (i 0).val < 1 := (i 0).isLt
  have h1 : (i 1).val < 16 := (i 1).isLt
  unfold baseW
  simp only [BitVec.toNat_mul, BitVec.toNat_add, BitVec.toNat_ofNat, Nat.reducePow, Nat.reduceMod]
  omega

/-- The word of row `64·i + k`. -/
theorem rowW_toNat (i : grid0.Coords) {o k : ℕ} (h : o + k < 64) :
    (baseW i + BitVec.ofNat 32 o + BitVec.ofNat 32 k).toNat = 64 * (i 1).val + (o + k) := by
  have h1 : (i 1).val < 16 := (i 1).isLt
  simp only [BitVec.toNat_add, BitVec.toNat_ofNat, Nat.reducePow, baseW_toNat]
  omega

/-! ## The target's position, and the check the body makes of it -/

/-- The scalar position of the target is the word above. -/
theorem mult1_eq (i : grid0.Coords) (w : BitVec 32) (hw : w.toNat < 100000) : k0_mult1 i w = posW w (baseW i) := by
  have h1 : (i 1).val < 16 := (i 1).isLt
  have hs : Scalar.shrsi w 3#32 = w >>> (3#32) := by
    unfold Scalar.shrsi IntOp.shrsi; rw [if_pos (by decide), sshift_eq (by omega)]
  have hb : Scalar.shrsi (baseW i) 7#32 = baseW i >>> (7#32) := by
    unfold Scalar.shrsi IntOp.shrsi; rw [if_pos (by decide), sshift_eq (by rw [baseW_toNat]; omega)]
  have hl : ∀ x : BitVec 32, Scalar.shli x 13#32 = x <<< (13#32) := fun x => by
    unfold Scalar.shli IntOp.shli; rw [if_pos (by decide)]
  have hm : ∀ x : BitVec 32, Scalar.shli x 10#32 = x <<< (10#32) := fun x => by
    unfold Scalar.shli IntOp.shli; rw [if_pos (by decide)]
  have hn : ∀ x : BitVec 32, Scalar.shli x 7#32 = x <<< (7#32) := fun x => by
    unfold Scalar.shli IntOp.shli; rw [if_pos (by decide)]
  unfold k0_mult1 posW
  dsimp only
  rw [show Scalar.muli (Scalar.addi (Scalar.muli (BitVec.ofNat 32 (i 1).val) 1#32) (BitVec.ofNat 32 (i 0).val)) 64#32 = baseW i from rfl,
    hs, hb, hl, hm, hn]
  rfl

/-- The offset of the copy of the target's sixty-four logits. -/
theorem off2_eq (i : grid0.Coords) (w : BitVec 32) : k0_off2 i w = ![(k0_mult1 i w).toNat] := rfl

/-- That offset, as a number. -/
theorem mult1_toNat (i : grid0.Coords) (w : BitVec 32) (hw : w.toNat < 100000) : (k0_mult1 i w).toNat = pos w.toNat (64 * (i 1).val) := by
  have h1 : (i 1).val < 16 := (i 1).isLt
  rw [mult1_eq i w hw, posW_toNat hw (by rw [baseW_toNat]; omega), baseW_toNat]

/-- A target that is a class passes the check: its offset is a multiple of 32 and its sixty-four logits lie in the array. -/
theorem chk1 (i : grid0.Coords) (w : BitVec 32) (hw : w.toNat < 100000) : k0_chk1 i w := by
  have h1 : (i 1).val < 16 := (i 1).isLt
  refine ⟨?_, ?_⟩
  · rw [mult1_toNat i w hw]; unfold pos; omega
  · intro a
    rw [off2_eq]
    match a with
    | 0 =>
      show (k0_mult1 i w).toNat + 64 ≤ 102400000
      rw [mult1_toNat i w hw]; unfold pos; omega

/-! ## The lanes -/

variable {F : FTy → Type} [FloatOps F]

/-- A recast of sixteen lanes to sixteen lanes changes nothing. -/
theorem cast16 {α : Type} (x : S16.Idx → α) : shapeCast S16 x shapeCasts_S16_S16 = x := by
  funext j; unfold shapeCast; rw [Shape.reshapeEquiv_self]

/-- The body's value for the target: lane 0 of the sixteen copies of it. -/
theorem tgt_lane (v : Vec F S16 .i32) : extractAt ![0] (k0_pay2 (F := F) v) inpos_S1_p0 = v (ix1 (0 : Fin 16)) := by
  unfold k0_pay2; simp only [cast16]
  unfold extractAt extractStridedSlice
  refine congrArg v (funext fun a => ?_)
  match a with | 0 => rfl

/-- A lane of the word of a row. -/
theorem iota16 (x : S16.Idx) : iota .scVector S16 32 [0] iota_S16_d0_w32_scVector x = BitVec.ofNat 32 (x 0).val := by
  show BitVec.ofNat 32 (List.foldl (fun n a => n * S16.size a + (x a).val) 0 [0]) = _
  simp

/-- The first sixteen positions. -/
theorem lanes0 (i : grid0.Coords) (v : Vec F S16 .i32) (x : S16.Idx) :
    k0_pay7 (k0_pay3 (F := F) v) (k0_pay4 i) (k0_pay5 (F := F) v) (k0_pay6 i) 10#32 x = posW (v x) (baseW i + BitVec.ofNat 32 0 + BitVec.ofNat 32 (x 0).val) := by
  unfold k0_pay7 k0_pay3 k0_pay4 k0_pay5 k0_pay6 k0_pay3 k0_pay4
  simp only [cast16]
  rw [← iota16]; rfl
/-- The second sixteen. -/
theorem lanes1 (i : grid0.Coords) (v : Vec F S16 .i32) (x : S16.Idx) :
    k0_pay8 (F := F) (baseW i) v x = posW (v x) (baseW i + BitVec.ofNat 32 16 + BitVec.ofNat 32 (x 0).val) := by
  unfold k0_pay8
  simp only [cast16]
  rw [← iota16]; rfl
/-- The third sixteen. -/
theorem lanes2 (i : grid0.Coords) (v : Vec F S16 .i32) (x : S16.Idx) :
    k0_pay10 (baseW i) (k0_pay9 (F := F) v) 32#32 x = posW (v x) (baseW i + BitVec.ofNat 32 32 + BitVec.ofNat 32 (x 0).val) := by
  unfold k0_pay10 k0_pay9
  simp only [cast16]
  rw [← iota16]; rfl
/-- The fourth sixteen. -/
theorem lanes3 (i : grid0.Coords) (v : Vec F S16 .i32) (x : S16.Idx) :
    k0_pay15 (k0_pay12 (baseW i)) (k0_pay13 (F := F) (baseW i) v) (k0_pay14 (F := F) v) x = posW (v x) (baseW i + BitVec.ofNat 32 48 + BitVec.ofNat 32 (x 0).val) := by
  unfold k0_pay15 k0_pay12 k0_pay13 k0_pay14 k0_pay11 k0_pay12
  simp only [cast16]
  rw [← iota16]; rfl

/-- The differences a task stores, lane by lane. -/
theorem diff0 (a b : Vec F S16 .f32) : k0_pay16 (F := F) a b = subf a b := by unfold k0_pay16; simp only [cast16]
theorem diff1 (a b : Vec F S16 .f32) : k0_pay17 (F := F) a b = subf a b := by unfold k0_pay17; simp only [cast16]
theorem diff2 (a b : Vec F S16 .f32) : k0_pay18 (F := F) a b = subf a b := by unfold k0_pay18; simp only [cast16]
theorem diff3 (a b : Vec F S16 .f32) : k0_pay1 (F := F) (k0_pay19 a) b = subf a b := by unfold k0_pay1 k0_pay19; simp only [cast16]

end Cert.Proof.Words

end
-- ==== Proof.Setup.lean ====
/-
  What the launch carries: the program as the launch theorem sees it, the buffers, the shares and rows of them that go to
  the sixteen tasks, and the arrays' contents before and after the call.

  Every task reads the flat logits at computed places, so each takes a sixteenth share of that whole array, and of the
  sixteen copies of the target; of the labels and of the result it takes its own sixty-four elements. The result's elements
  come back at their final values (`outV`): the value claim rides in what the tasks hand back.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Words

@[expose] public section

noncomputable section

namespace Cert.Proof.Run

open Cert.KernelIdeal Cert.KernelIdeal.Gen Cert.Proof.Words

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct and unscoped, and no shared memory is in use. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

variable (m : (ℓ : Loc nD τ sig) → Buf (Elt F) ℓ) (ρ : Dev nD → PrngReg)

/-- The logits as the caller passes them, -/
abbrev aLoc (d : Dev nD) : Loc nD τ sig := (SparseCore.T d).loc main_arg0
/-- the labels, -/
abbrev lLoc (d : Dev nD) : Loc nD τ sig := (SparseCore.T d).loc main_arg1
/-- the target, -/
abbrev gLoc (d : Dev nD) : Loc nD τ sig := (SparseCore.T d).loc main_arg2
/-- the two steps of the flattening, -/
abbrev bLoc (d : Dev nD) : Loc nD τ sig := (SparseCore.T d).loc main_v0
abbrev cLoc (d : Dev nD) : Loc nD τ sig := (SparseCore.T d).loc main_v1
/-- the flat logits, -/
abbrev xLoc (d : Dev nD) : Loc nD τ sig := (SparseCore.T d).loc main_v2
/-- sixteen copies of the target, -/
abbrev tLoc (d : Dev nD) : Loc nD τ sig := (SparseCore.T d).loc main_v3
/-- and the result. -/
abbrev oLoc (d : Dev nD) : Loc nD τ sig := (SparseCore.T d).loc main_v4

/-- The arrays as the tasks name them. -/
abbrev xV : Memref sig .scVector .hbm S102400000 .f32 := Memref.whole main_v2_scv
abbrev lV : Memref sig .scVector .hbm S1024 .i32 := Memref.whole main_arg1_scv
abbrev tV : Memref sig .scVector .hbm S16 .i32 := Memref.whole main_v3_scv
abbrev oV : Memref sig .scVector .hbm S1024 .f32 := Memref.whole main_v4_scv

/-! ## What the arrays hold -/

/-- The element of the flat array at position `p` (every position the proof names is in the array). -/
def flatIx (p : ℕ) : S102400000.Idx := ix1 (⟨p % 102400000, Nat.mod_lt _ (by decide)⟩ : Fin 102400000)

/-- The flat logits: the caller's, regrouped and reordered by the host operations before the call. -/
def flatV (d : Dev nD) : S102400000.Idx → F .f32 :=
  shapeCast S102400000 (transpose S12500x8x8x128 [2, 0, 3, 1] (shapeCast S8x128x12500x8 (m (aLoc d) : S1024x100000.Idx → F .f32)
    shapeCasts_S1024x100000_S8x128x12500x8) transposes_S8x128x12500x8_S12500x8x8x128_2_0_3_1) shapeCasts_S12500x8x8x128_S102400000

/-- The labels and the target, as words. -/
abbrev labW (d : Dev nD) : S1024.Idx → BitVec 32 := m (lLoc d)
abbrev tgtW (d : Dev nD) : BitVec 32 := (m (gLoc d) : S_.Idx → BitVec 32) ix0
/-- Sixteen copies of the target. -/
def tgtV (d : Dev nD) : S16.Idx → BitVec 32 := fun _ => tgtW m d

/-- The result: at batch row `b` the logit of the row's label less the logit of the target. -/
def outV [FloatOps F] (d : Dev nD) : S1024.Idx → F .f32 := fun j =>
  FloatOps.subf (flatV m d (flatIx (pos (labW m d j).toNat (j 0).val))) (flatV m d (flatIx (pos (tgtW m d).toNat (j 0).val)))

/-- What the proof asks of the launch memory: every label and the target are classes. -/
def PreOK : Prop := ∀ d : Dev nD, (∀ j : S1024.Idx, (labW m d j).toNat < 100000) ∧ (tgtW m d).toNat < 100000

/-! ## Rows and shares -/

theorem rdiv : 16 ∣ S1024.size 0 := ⟨64, rfl⟩
/-- The sixty-four elements of task `i`. -/
abbrev row (i : Fin 16) : Rect S1024 := Rect.part (s := S1024) (a₀ := 0) rdiv i
abbrev lRowSet (i : Fin 16) : Finset S1024.Idx := (lV.view.slice (row i)).set
abbrev oRowSet (i : Fin 16) : Finset S1024.Idx := (oV.view.slice (row i)).set

/-- Task `i`'s share of an array that all sixteen read. -/
abbrev shr (i : Fin 16) : PosShare TreeShare := pieceOf fullShare 16 (by decide) i

variable [FloatOps F]

abbrev lRowPts (d : Dev nD) (i : Fin 16) : sProp 𝕄 := lLoc d ↦[lRowSet i]{fullShare} m (lLoc d)
abbrev xShPts (d : Dev nD) (i : Fin 16) : sProp 𝕄 := xLoc d ↦{shr i} (flatV m d : Buf (Elt F) (xLoc d))
abbrev tShPts (d : Dev nD) (i : Fin 16) : sProp 𝕄 := tLoc d ↦{shr i} (tgtV m d : Buf (Elt F) (tLoc d))
abbrev oRowPts (d : Dev nD) (i : Fin 16) (f : Buf (Elt F) (oLoc d)) : sProp 𝕄 := oLoc d ↦[oRowSet i]{fullShare} f

abbrev goRes (d : Dev nD) (i : Fin 16) : sProp 𝕄 := iprop(xShPts m d i ∗ lRowPts m d i ∗ tShPts m d i ∗ oRowPts d i (m (oLoc d)))
abbrev tdRes (d : Dev nD) (i : Fin 16) : sProp 𝕄 := iprop(xShPts m d i ∗ lRowPts m d i ∗ tShPts m d i ∗ oRowPts d i (outV m d))
abbrev callRes (d : Dev nD) (f : Buf (Elt F) (oLoc d)) : sProp 𝕄 :=
  iprop((xLoc d ↦{fullShare} (flatV m d : Buf (Elt F) (xLoc d))) ∗ (lLoc d ↦{fullShare} m (lLoc d))
    ∗ (tLoc d ↦{fullShare} (tgtV m d : Buf (Elt F) (tLoc d))) ∗ oLoc d ↦{fullShare} f)

/-- The call takes the four arrays whole and brings them back, the result at its final values; each task likewise for its
    shares and rows. -/
def P : (K (F := F)).Pay (nD := nD) (Val := Elt F) (Name := ℕ) (U := UU) where
  st := fun q d _ => match q with | 0 => callRes m d (m (oLoc d))
  dn := fun q d _ => match q with | 0 => callRes m d (outV m d)
  go := fun q d _ i => match q with | 0 => goRes m d (Fin.cast nSub_zero i)
  td := fun q d _ i => match q with | 0 => tdRes m d (Fin.cast nSub_zero i)
  x := fun _ _ => iprop(emp)

instance P_storable : (P (F := F) m).IsStorable where
  st q d _ := match q with | 0 => (inferInstance : BI.Storable (upEmb : UEmb _ 𝕄) (callRes m d (m (oLoc d))))
  dn q d _ := match q with | 0 => (inferInstance : BI.Storable (upEmb : UEmb _ 𝕄) (callRes m d (outV m d)))
  go q d _ i := match q with | 0 => (inferInstance : BI.Storable (upEmb : UEmb _ 𝕄) (goRes m d (Fin.cast nSub_zero i)))
  td q d _ i := match q with | 0 => (inferInstance : BI.Storable (upEmb : UEmb _ 𝕄) (tdRes m d (Fin.cast nSub_zero i)))

end Cert.Proof.Run

end
-- ==== Proof.Rows.lean ====
/-
  Sixty-four elements held as four sixteens, and what one task's list, copies and differences are, as functions of the
  place in the task's sixty-four rows.
-/
module

public import proofs.«01_k».proof.Proof.Setup

@[expose] public section

noncomputable section

namespace Cert.Proof.Run

open Cert.KernelIdeal Cert.KernelIdeal.Gen Cert.Proof.Words

open Idealize.ShloMosaic Idealize.ShloMosaic.ValueIdx

/-! ## Four sixteens -/

/-- The sixteen elements from place `o` on. -/
def part16 {α : Type} (o : ℕ) (h : o + 16 ≤ 64) (f : S64.Idx → α) : S16.Idx → α :=
  fun x => f (ix1 (⟨o + (x 0).val, by have : (x 0).val < 16 := (x 0).isLt; omega⟩ : Fin 64))

theorem emb16 (o : ℕ) (h : o + 16 ≤ 64) (inb : ∀ a, (![o] : Fin 1 → ℕ) a + S16.size a ≤ S64.size a) (x : S16.Idx) :
    (Rect.unit (s := S64) ![o] S16.size inb).emb x = ix1 (⟨o + (x 0).val, by have : (x 0).val < 16 := (x 0).isLt; omega⟩ : Fin 64) := by
  refine Rect.emb_eq_of_coords (Rect.unit (s := S64) ![o] S16.size inb) x _ fun a => ?_
  match a with
  | 0 => show o + (x 0).val = o + 1 * (x 0).val; omega

/-- A load of sixteen elements from place `o` reads those sixteen. -/
theorem load16 {Val : EltTy → Type} {sp : Space} {e : EltTy} (v : View sig .scVector sp S64 e) (f : v.ty.Contents Val) (o : ℕ) (h : o + 16 ≤ 64)
    (inb : ∀ a, (![o] : Fin 1 → ℕ) a + S16.size a ≤ S64.size a) :
    v.readAt Val (Rect.unit (s := S64) ![o] S16.size inb).toLoadRect f = part16 o h (v.read Val f) := by
  funext x
  exact congrArg (v.read Val f) (emb16 o h inb x)

/-- Four stores of sixteen elements, each the matching part of `G`, leave `G`. -/
theorem store16 {Val : EltTy → Type} {sp : Space} {e : EltTy} (v : View sig .scVector sp S64 e) (f : v.ty.Contents Val) (G : S64.Idx → Val e)
    (p0 p1 p2 p3 : S16.Idx → Val e) (h0 : p0 = part16 0 (by omega) G) (h1 : p1 = part16 16 (by omega) G) (h2 : p2 = part16 32 (by omega) G)
    (h3 : p3 = part16 48 (by omega) G) :
    v.read Val (v.writes Val f
      [⟨Rect.unit (s := S64) ![48] S16.size inb_S64_S16_48, p3⟩, ⟨Rect.unit (s := S64) ![32] S16.size inb_S64_S16_32, p2⟩,
        ⟨Rect.unit (s := S64) ![16] S16.size inb_S64_S16_16, p1⟩, ⟨Rect.unit (s := S64) ![0] S16.size inb_S64_S16_0, p0⟩]) = G := by
  subst h0 h1 h2 h3
  funext y
  refine View.read_writes_apply_of_pieces v f G _ (fun p hp x => ?_) y (View.cover_of_tiled (s := S64) _ S16.size rfl y)
  simp only [List.mem_cons, List.not_mem_nil, or_false] at hp
  rcases hp with rfl | rfl | rfl | rfl
  · exact (congrArg G (emb16 48 (by omega) inb_S64_S16_48 x)).symm
  · exact (congrArg G (emb16 32 (by omega) inb_S64_S16_32 x)).symm
  · exact (congrArg G (emb16 16 (by omega) inb_S64_S16_16 x)).symm
  · exact (congrArg G (emb16 0 (by omega) inb_S64_S16_0 x)).symm

/-! ## The task's rows -/

variable {F : FTy → Type} (m : (ℓ : Loc nD τ sig) → Buf (Elt F) ℓ) (d : Dev nD) (L : grid0.Coords)

/-- The row of the result that place `k` of the task stands for. -/
def gix (L : grid0.Coords) (k : S64.Idx) : S1024.Idx :=
  ix1 (⟨64 * (L 1).val + (k 0).val, by
    have h1 : (L 1).val < 16 := (L 1).isLt
    have : (k 0).val < 64 := (k 0).isLt
    omega⟩ : Fin 1024)

theorem gix_val (k : S64.Idx) : (gix L k 0).val = 64 * (L 1).val + (k 0).val := rfl

theorem emb_row1 (k : S64.Idx) : (Rect.unit (s := S1024) (k0_off1 L) S64.size (k0_off1_inb L)).emb k = gix L k := by
  have h0 : (L 0).val = 0 := by have : (L 0).val < 1 := (L 0).isLt; omega
  refine Rect.emb_eq_of_coords (Rect.unit (s := S1024) (k0_off1 L) S64.size (k0_off1_inb L)) k _ fun a => ?_
  match a with
  | 0 =>
    show 64 * (L 1).val + (k 0).val = k0_off1 L 0 + 1 * (k 0).val
    rw [k0_off1_eq, h0]; show _ = 64 * (L 1).val + 64 * 0 + 1 * (k 0).val; omega
theorem emb_row3 (k : S64.Idx) : (Rect.unit (s := S1024) (k0_off3 L) S64.size (k0_off3_inb L)).emb k = gix L k := by
  have h0 : (L 0).val = 0 := by have : (L 0).val < 1 := (L 0).isLt; omega
  refine Rect.emb_eq_of_coords (Rect.unit (s := S1024) (k0_off3 L) S64.size (k0_off3_inb L)) k _ fun a => ?_
  match a with
  | 0 =>
    show 64 * (L 1).val + (k 0).val = k0_off3 L 0 + 1 * (k 0).val
    rw [k0_off3_eq, h0]; show _ = 64 * (L 1).val + 64 * 0 + 1 * (k 0).val; omega

/-- The label of place `k`. -/
def labK (k : S64.Idx) : BitVec 32 := labW m d (gix L k)
/-- The position the task computes for place `k`. -/
def posK (k : S64.Idx) : BitVec 32 := posW (labK m d L k) (baseW L + BitVec.ofNat 32 (k 0).val)

/-- That position as a number. -/
theorem posK_toNat (hpre : PreOK m) (k : S64.Idx) : (posK m d L k).toNat = pos (labK m d L k).toNat (gix L k 0).val := by
  have h1 : (L 1).val < 16 := (L 1).isLt
  have hk : (k 0).val < 64 := (k 0).isLt
  have hb : (baseW L + BitVec.ofNat 32 (k 0).val).toNat = 64 * (L 1).val + (k 0).val := by
    have := rowW_toNat L (o := 0) (k := (k 0).val) (by omega)
    rw [show baseW L + BitVec.ofNat 32 0 = baseW L from BitVec.add_zero _, Nat.zero_add] at this
    exact this
  unfold posK
  rw [posW_toNat (show (labK m d L k).toNat < 100000 from (hpre d).1 _) (by rw [hb]; omega), hb, gix_val]

/-- It lies in the flat array. -/
theorem posK_lt (hpre : PreOK m) (k : S64.Idx) : (posK m d L k).toNat < 102400000 := by
  rw [posK_toNat m d L hpre]
  exact pos_lt ((hpre d).1 _) (gix L k 0).isLt

/-- Sixteen positions that are computed from the labels of places `o` on are the positions of those places. -/
theorem part_posK (o : ℕ) (h : o + 16 ≤ 64) (x : S16.Idx) :
    posW (part16 o h (labK m d L) x) (baseW L + BitVec.ofNat 32 o + BitVec.ofNat 32 (x 0).val) = part16 o h (posK m d L) x := by
  unfold part16 posK
  rw [BitVec.add_assoc, ← BitVec.ofNat_add]

/-- The gathered logit of place `k`: its label's. -/
def gotK (k : S64.Idx) : F .f32 := flatV m d (flatIx (pos (labK m d L k).toNat (gix L k 0).val))
/-- The target's logit of place `k`. -/
def tgtK (k : S64.Idx) : F .f32 := flatV m d (flatIx (pos (tgtW m d).toNat (gix L k 0).val))

/-- What the result is to hold at the row of place `k`. -/
theorem outV_gix [FloatOps F] (k : S64.Idx) : outV m d (gix L k) = FloatOps.subf (gotK m d L k) (tgtK m d L k) := rfl

theorem flatIx_val {p : ℕ} (h : p < 102400000) : (flatIx p 0).val = p := Nat.mod_eq_of_lt h

/-- An index of the flat array is known by its one coordinate. -/
theorem flatIx_of_val {j : S102400000.Idx} {p : ℕ} (h : (j 0).val = p) : j = flatIx p := by
  funext a
  match a with
  | 0 => exact Fin.ext (h.trans (flatIx_val (by have : (j 0).val < 102400000 := (j 0).isLt; omega)).symm)

/-- The sixty-four logits copied at the target's offset are the target's logits of the task's places. -/
theorem tgt_copy (hpre : PreOK m) {w : BitVec 32} (hw : w = tgtW m d) (inb : ∀ a, k0_off2 L w a + S64.size a ≤ S102400000.size a) (k : S64.Idx) :
    flatV m d ((Rect.unit (s := S102400000) (k0_off2 L w) S64.size inb).emb k) = tgtK m d L k := by
  subst hw
  have hk : (k 0).val < 64 := (k 0).isLt
  unfold tgtK
  refine congrArg (flatV m d) (flatIx_of_val ?_)
  show k0_off2 L (tgtW m d) 0 + 1 * (k 0).val = _
  rw [off2_eq, gix_val, pos_block _ _ _ hk]
  show (k0_mult1 L (tgtW m d)).toNat + 1 * (k 0).val = _
  rw [mult1_toNat L _ (hpre d).2, Nat.one_mul]

/-- A place of a list of sixty-four is its place in row-major order. -/
theorem rowMajor64 (k : S64.Idx) (j : Fin S64.numel) (h : j.val = (k 0).val) : S64.rowMajor.symm j = k := by
  rw [Equiv.symm_apply_eq]
  exact Fin.ext (h.trans (Shape.rowMajor_val_one k).symm)

/-- The indirect copy by a list that holds the positions brings the labels' logits. -/
theorem gather_copy (hpre : PreOK m) {idx : S64.Idx → BitVec 32} (hidx : idx = posK m d L)
    (hn : S64.numel = S64.size gathers_S102400000_S64.axis') (h : ∀ x, (idx x).toNat < S102400000.size gathers_S102400000_S64.axis) (k : S64.Idx) :
    SparseCore.gatherPayload (F := F) (e := .f32) gathers_S102400000_S64
      ((xV.slice (Rect.unit (s := S102400000) ![0] S102400000.size inb_S102400000_S102400000_0) (fun _ => rfl)).view.read (Elt F) (flatV m d))
      (SparseCore.rows (F := F) idx hn h) k = gotK m d L k := by
  subst hidx
  unfold gotK
  refine congrArg (flatV m d) (flatIx_of_val ?_)
  show 0 + 1 * (gathers_S102400000_S64.idx (SparseCore.rows (F := F) (posK m d L) hn h) k gathers_S102400000_S64.axis).val = _
  rw [Shape.Gathers.idx_axis]
  unfold SparseCore.rows
  rw [Nat.zero_add, Nat.one_mul]
  show (posK m d L (S64.rowMajor.symm ((k 0).cast hn.symm))).toNat = _
  rw [rowMajor64 k ((k 0).cast hn.symm) rfl, posK_toNat m d L hpre]

end Cert.Proof.Run

end
-- ==== Proof.Tile.lean ====
/-
  One task: sixty-four rows of the result on one vector subcore.
-/
module

public import proofs.«01_k».proof.Proof.Rows

@[expose] public section

noncomputable section

namespace Cert.Proof.Run

open Cert.KernelIdeal Cert.KernelIdeal.Gen Cert.Proof.Words

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- The task's scratch: its labels, the target's copies, the positions, the gathered logits, the target's logits, the
    differences. -/
abbrev laV : Memref sig .scVector .vmem S64 .i32 := Memref.whole cc0_scratch0
abbrev tcV : Memref sig .scVector .vmem S16 .i32 := Memref.whole cc0_scratch1
abbrev ixV : Memref sig .scVector .vmem S64 .i32 := Memref.whole cc0_scratch2
abbrev gtV : Memref sig .scVector .vmem S64 .f32 := Memref.whole cc0_scratch3
abbrev tgV : Memref sig .scVector .vmem S64 .f32 := Memref.whole cc0_scratch4
abbrev loV : Memref sig .scVector .vmem S64 .f32 := Memref.whole cc0_scratch5

variable (d : Dev nD) (L : grid0.Coords)

abbrev cV (L : grid0.Coords) : Fin τ.nSC := (L 0).castLE hcore0
abbrev jV (L : grid0.Coords) : Fin τ.nSub := (L 1).castLE hsub0
theorem bound_one : grid0.bound 1 = 16 := rfl
/-- The task's number. -/
abbrev jL (L : grid0.Coords) : Fin 16 := Fin.cast bound_one (L 1)
/-- The subcore the task runs on. -/
abbrev thr (d : Dev nD) (L : grid0.Coords) : Thread nD τ := V d (cV L) (jV L)

/-- The task's rows of the labels and of the result, as the program slices them. -/
abbrev lRowK (L : grid0.Coords) : Memref sig .scVector .hbm S64 .i32 :=
  lV.slice (Rect.unit (s := S1024) (k0_off1 L) S64.size (k0_off1_inb L)) (fun _ => rfl)
abbrev oRowK (L : grid0.Coords) : Memref sig .scVector .hbm S64 .f32 :=
  oV.slice (Rect.unit (s := S1024) (k0_off3 L) S64.size (k0_off3_inb L)) (fun _ => rfl)
/-- All of the flat logits, as the gather names them. -/
abbrev xAllK : Memref sig .scVector .hbm S102400000 .f32 :=
  xV.slice (Rect.unit (s := S102400000) ![0] S102400000.size inb_S102400000_S102400000_0) (fun _ => rfl)

theorem rowK1 : Rect.unit (s := S1024) (k0_off1 L) S64.size (k0_off1_inb L) = row (jL L) := by
  have h0 : (L 0).val = 0 := by have : (L 0).val < 1 := (L 0).isLt; omega
  unfold row Rect.part Rect.block
  congr 1 <;> funext a
  · rw [k0_off1_eq, h0]
    match a with
    | 0 => simp [Shape.partIx, Shape.partSize, Nat.mul_comm]
  · match a with
    | 0 => simp [Shape.partSize]
theorem rowK3 : Rect.unit (s := S1024) (k0_off3 L) S64.size (k0_off3_inb L) = row (jL L) := by
  have h0 : (L 0).val = 0 := by have : (L 0).val < 1 := (L 0).isLt; omega
  unfold row Rect.part Rect.block
  congr 1 <;> funext a
  · rw [k0_off3_eq, h0]
    match a with
    | 0 => simp [Shape.partIx, Shape.partSize, Nat.mul_comm]
  · match a with
    | 0 => simp [Shape.partSize]

theorem set_lRowK : (lRowK L).view.set = lRowSet (jL L) := by
  show (lV.view.slice (Rect.unit (s := S1024) (k0_off1 L) S64.size (k0_off1_inb L))).set = (lV.view.slice (row (jL L))).set
  exact rowK1 L ▸ rfl
theorem set_oRowK : (oRowK L).view.set = oRowSet (jL L) := by
  show (oV.view.slice (Rect.unit (s := S1024) (k0_off3 L) S64.size (k0_off3_inb L))).set = (oV.view.slice (row (jL L))).set
  exact rowK3 L ▸ rfl

theorem pts_lRowK (f : Buf (Elt F) (lLoc d)) :
    ((lRowK L).view.loc (thr d L) ↦[(lRowK L).view.set]{fullShare} f : sProp 𝕄) = lLoc d ↦[lRowSet (jL L)]{fullShare} f := by
  rw [set_lRowK]
theorem pts_oRowK (f : Buf (Elt F) (oLoc d)) :
    ((oRowK L).view.loc (thr d L) ↦[(oRowK L).view.set]{fullShare} f : sProp 𝕄) = oLoc d ↦[oRowSet (jL L)]{fullShare} f := by
  rw [set_oRowK]

theorem pts_laV (f : Buf (Elt F) ((thr d L).loc cc0_scratch0)) :
    ((laV).view.loc (thr d L) ↦{fullShare} f : sProp 𝕄) = (thr d L).loc cc0_scratch0 ↦{fullShare} f := rfl
theorem pts_tcV (f : Buf (Elt F) ((thr d L).loc cc0_scratch1)) :
    ((tcV).view.loc (thr d L) ↦{fullShare} f : sProp 𝕄) = (thr d L).loc cc0_scratch1 ↦{fullShare} f := rfl
theorem pts_ixV (f : Buf (Elt F) ((thr d L).loc cc0_scratch2)) :
    ((ixV).view.loc (thr d L) ↦{fullShare} f : sProp 𝕄) = (thr d L).loc cc0_scratch2 ↦{fullShare} f := rfl
theorem pts_gtV (f : Buf (Elt F) ((thr d L).loc cc0_scratch3)) :
    ((gtV).view.loc (thr d L) ↦{fullShare} f : sProp 𝕄) = (thr d L).loc cc0_scratch3 ↦{fullShare} f := rfl
theorem pts_tgV (f : Buf (Elt F) ((thr d L).loc cc0_scratch4)) :
    ((tgV).view.loc (thr d L) ↦{fullShare} f : sProp 𝕄) = (thr d L).loc cc0_scratch4 ↦{fullShare} f := rfl
theorem pts_loV (f : Buf (Elt F) ((thr d L).loc cc0_scratch5)) :
    ((loV).view.loc (thr d L) ↦{fullShare} f : sProp 𝕄) = (thr d L).loc cc0_scratch5 ↦{fullShare} f := rfl
theorem pts_xV (q : PosShare TreeShare) (f : Buf (Elt F) (xLoc d)) :
    (xV.view.loc (thr d L) ↦{q} f : sProp 𝕄) = xLoc d ↦{q} f := rfl
theorem pts_tV (q : PosShare TreeShare) (f : Buf (Elt F) (tLoc d)) :
    (tV.view.loc (thr d L) ↦{q} f : sProp 𝕄) = tLoc d ↦{q} f := rfl

/-- The cells of the task's five copies: labels, target, target's logits, gather, result. -/
abbrev cell (d : Dev nD) (L : grid0.Coords) (a : DmaSem sig) : GSem nD τ sig := (thr d L, .dma a)

theorem cell_mem (a : DmaSem sig) (h : (SemLoc.dma a : SemLoc sig).isScoped .scVector = true) : cell d L a ∈ ownCells (thr d L) :=
  mem_ownCells.mpr ⟨rfl, h⟩
theorem cell_ne {a b : DmaSem sig} (h : a ≠ b) : cell d L a ≠ cell d L b := fun e => h (by simpa [cell] using e)

/-- The five cells are among the subcore's own. -/
theorem ownSems0_V :
    (ownSems0 (thr d L) : sProp 𝕄)
      = iprop(semVal (cell d L cc0_scratch6.sem) 0 ∗ semVal (cell d L cc0_scratch7.sem) 0 ∗ semVal (cell d L cc0_scratch8.sem) 0
          ∗ semVal (cell d L cc0_scratch9.sem) 0 ∗ semVal (cell d L cc0_scoped0.sem) 0
          ∗ bigSep ((((((ownCells (thr d L)).erase (cell d L cc0_scratch6.sem)).erase (cell d L cc0_scratch7.sem)).erase (cell d L cc0_scratch8.sem)).erase
              (cell d L cc0_scratch9.sem)).erase (cell d L cc0_scoped0.sem)) fun g => semVal g 0) := by
  unfold SparseCore.Cfg.ownSems0
  rw [SparseCore.bigSep_erase' (cell_mem d L cc0_scratch6.sem (by decide)),
    SparseCore.bigSep_erase' (Finset.mem_erase.mpr ⟨cell_ne d L (by decide), cell_mem d L cc0_scratch7.sem (by decide)⟩),
    SparseCore.bigSep_erase' (Finset.mem_erase.mpr ⟨cell_ne d L (by decide), Finset.mem_erase.mpr ⟨cell_ne d L (by decide),
      cell_mem d L cc0_scratch8.sem (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L cc0_scratch9.sem (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), cell_mem d L cc0_scoped0.sem (by decide)⟩⟩⟩⟩)]

/-- A scratch buffer of the task, as a buffer of the device. -/
abbrev bref (L : grid0.Coords) (r : Ref sig .scVector) : DevRef τ sig := (Proc.scVector (cV L) (jV L)).devRef r
theorem bref_ne {r r' : Ref sig .scVector} (h : r ≠ r') : bref L r ≠ bref L r' := fun e => h (Proc.devRef_injective _ e)
theorem bref_mem (r : Ref sig .scVector) (h : (bref L r).owner = .proc (Proc.scVector (cV L) (jV L))) : bref L r ∈ ownRefs (τ := τ) (.scVector (cV L) (jV L)) :=
  SparseCore.Cfg.mem_ownRefs_of_owner (p := Proc.scVector (cV L) (jV L)) h

/-- The six scratch buffers are among the subcore's own, each at some contents. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f) ∗ (∃ f, (thr d L).loc cc0_scratch5 ↦{fullShare} f)
          ∗ bigSep (((((((ownRefs (τ := τ) (.scVector (cV L) (jV L))).erase (bref L cc0_scratch0)).erase (bref L cc0_scratch1)).erase (bref L cc0_scratch2)).erase
              (bref L cc0_scratch3)).erase (bref L cc0_scratch4)).erase (bref L cc0_scratch5))
              fun b => iprop(∃ f, ((d, b) : Loc nD τ sig) ↦{fullShare} f)) := by
  unfold SparseCore.Cfg.ownBufs
  refine (SparseCore.bigSep_erase' (bref_mem L cc0_scratch0 rfl)).trans ?_
  rw [SparseCore.bigSep_erase' (Finset.mem_erase.mpr ⟨bref_ne L (by decide), bref_mem L cc0_scratch1 rfl⟩),
    SparseCore.bigSep_erase' (Finset.mem_erase.mpr ⟨bref_ne L (by decide), Finset.mem_erase.mpr ⟨bref_ne L (by decide), bref_mem L cc0_scratch2 rfl⟩⟩),
    SparseCore.bigSep_erase' (Finset.mem_erase.mpr ⟨bref_ne L (by decide), Finset.mem_erase.mpr ⟨bref_ne L (by decide),
      Finset.mem_erase.mpr ⟨bref_ne L (by decide), bref_mem L cc0_scratch3 rfl⟩⟩⟩),
    SparseCore.bigSep_erase' (Finset.mem_erase.mpr ⟨bref_ne L (by decide), Finset.mem_erase.mpr ⟨bref_ne L (by decide),
      Finset.mem_erase.mpr ⟨bref_ne L (by decide), Finset.mem_erase.mpr ⟨bref_ne L (by decide), bref_mem L cc0_scratch4 rfl⟩⟩⟩⟩),
    SparseCore.bigSep_erase' (Finset.mem_erase.mpr ⟨bref_ne L (by decide), Finset.mem_erase.mpr ⟨bref_ne L (by decide),
      Finset.mem_erase.mpr ⟨bref_ne L (by decide), Finset.mem_erase.mpr ⟨bref_ne L (by decide), Finset.mem_erase.mpr ⟨bref_ne L (by decide),
        bref_mem L cc0_scratch5 rfl⟩⟩⟩⟩⟩)]

variable [FloatOps F]

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goRes m d (jL L)
        ∗ scopedBufs (thr d L) ∗ scopedSems0 (thr d L) ∗ owes (thr d L) O W)
      ⊢ wp frame (wpE (defs₀ (F := F)) 𝒱₀ (thr d L) none) Set.univ
          (cc0__body L xV (Memref.isWhole_whole _) lV (Memref.isWhole_whole _) tV (Memref.isWhole_whole _) oV (Memref.isWhole_whole _)
            laV (Memref.isWhole_whole _) tcV (Memref.isWhole_whole _) ixV (Memref.isWhole_whole _) gtV (Memref.isWhole_whole _)
            tgV (Memref.isWhole_whole _) loV (Memref.isWhole_whole _) cc0_scratch6 cc0_scratch7 cc0_scratch8 cc0_scratch9 cc0_scoped0)
          fun _ => iprop(tdRes m d (jL L) ∗ scopedBufs (thr d L) ∗ scopedSems0 (thr d L)
            ∗ ∃ W', ⌜∀ p ∈ W', p ∈ W ∨ p.2 = none⌝ ∗ owes (thr d L) O W') := by
  simp only [cc0__body_eq_skeleton]; unfold cc0__body_skel
  rw [(K (F := F)).scopedBufs_V hF d (cV L) (jV L), SparseCore.Cfg.scopedSems0_V (Val := Elt F) d (cV L) (jV L), ownSems0_V, ownBufs_V]
  iintro ⟨#Hlv, -, ⟨Hx, Hl, Ht, Ho⟩, ⟨⟨%fla, Hla⟩, ⟨%ftc, Htc⟩, ⟨%fix, Hix⟩, ⟨%fgt, Hgt⟩, ⟨%ftg, Htg⟩, ⟨%flo, Hlo⟩, Hbufs⟩,
    ⟨HsA, HsB, HsC, HsD, HsE, Hsems⟩, HO⟩
  ihave Hmw := (show levAts (K (F := F)).L (K (F := F)).lev ⊢ Transfers.MayWaits (thr d L) (default : HIx 1) O from
    (K (F := F)).mayWaits_none (thr := thr d L) hO) $$ Hlv
  ihave Hl' := (Entails.of_eq (pts_lRowK (F := F) d L _).symm) $$ Hl
  ihave Ho' := (Entails.of_eq (pts_oRowK (F := F) d L _).symm) $$ Ho
  ihave Hla' := (Entails.of_eq (pts_laV (F := F) d L _).symm) $$ Hla
  ihave Htc' := (Entails.of_eq (pts_tcV (F := F) d L _).symm) $$ Htc
  ihave Hix' := (Entails.of_eq (pts_ixV (F := F) d L _).symm) $$ Hix
  ihave Hgt' := (Entails.of_eq (pts_gtV (F := F) d L _).symm) $$ Hgt
  ihave Htg' := (Entails.of_eq (pts_tgV (F := F) d L _).symm) $$ Htg
  ihave Hlo' := (Entails.of_eq (pts_loV (F := F) d L _).symm) $$ Hlo
  ihave Ht' := (Entails.of_eq (pts_tV (F := F) d L _ _).symm) $$ Ht
  ihave Hx' := (Entails.of_eq (pts_xV (F := F) d L _ _).symm) $$ Hx
  ihave Hxx := (pointsTo_share (PosShare.mem_left_op_right (shr (jL L)))).1 $$ Hx'
  icases Hxx with ⟨HxL, HxR⟩
  sl_exec
  have htgt : tile_body.sl.v8 m d L ftc = tgtW m d := by
    refine (show tile_body.sl.v8 m d L ftc = extractAt ![0] (k0_pay2 (F := F) (View.readAt (Elt F) tcV.view
      (Rect.unit (s := S16) ![0] S16.size inb_S16_S16_0).toLoadRect
        (View.write (Elt F) tcV.view ftc (tile_body.sl.dma0_1 m d) Finset.univ))) inpos_S1_p0 from rfl).trans ?_
    rw [tgt_lane]
    exact congrFun (View.write_whole_univ (Val := Elt F) cc0_scratch1 ftc (tile_body.sl.dma0_1 m d)) (ix1 (0 : Fin 16))
  have hchk : k0_chk1 L (tile_body.sl.v8 m d L ftc) := by
    rw [htgt]; exact chk1 L _ (hpre d).2
  sl_exec
  have hlab : laV.view.read (Elt F) (View.write (Elt F) laV.view fla (tile_body.sl.dma0 m d L) Finset.univ) = labK m d L := by
    refine (View.write_whole_univ (Val := Elt F) cc0_scratch0 fla (tile_body.sl.dma0 m d L)).trans ?_
    funext k
    exact congrArg (labW m d) (emb_row1 L k)
  have hpos : ixV.view.read (Elt F) (ixV.view.writes (Elt F) ixV.view.junk (tile_body.sl.Hix'_4 m d L fla)) = posK m d L := by
    refine store16 (Val := Elt F) ixV.view _ (posK m d L) _ _ _ _ ?_ ?_ ?_ ?_
    · funext x
      refine Eq.trans ?_ (part_posK m d L 0 (by omega) x)
      rw [← hlab, ← load16 _ _ 0 (by omega) inb_S64_S16_0, ← lanes0]; rfl
    · funext x
      refine Eq.trans ?_ (part_posK m d L 16 (by omega) x)
      rw [← hlab, ← load16 _ _ 16 (by omega) inb_S64_S16_16, ← lanes1]; rfl
    · funext x
      refine Eq.trans ?_ (part_posK m d L 32 (by omega) x)
      rw [← hlab, ← load16 _ _ 32 (by omega) inb_S64_S16_32, ← lanes2]; rfl
    · funext x
      refine Eq.trans ?_ (part_posK m d L 48 (by omega) x)
      rw [← hlab, ← load16 _ _ 48 (by omega) inb_S64_S16_48, ← lanes3]; rfl
  have hin : ∀ x, (ixV.view.read (Elt F) (ixV.view.writes (Elt F) ixV.view.junk (tile_body.sl.Hix'_4 m d L fla)) x).toNat
      < S102400000.size gathers_S102400000_S64.axis := by
    intro x; rw [hpos]; exact posK_lt m d L hpre x
  sl_exec
  have hgot : gtV.view.read (Elt F) (gtV.view.writes (Elt F) gtV.view.junk [⟨Rect.whole S64, tile_body.sl.gather0 m d L fla hin⟩]) = gotK m d L := by
    funext k
    refine (View.read_writes_cons_hit gtV.view gtV.view.junk (Rect.whole S64) (tile_body.sl.gather0 m d L fla hin) [] k k (Rect.emb_whole_apply S64 k)).trans ?_
    exact gather_copy m d L hpre hpos _ hin k
  have htg : tgV.view.read (Elt F) (View.write (Elt F) tgV.view ftg (tile_body.sl.dma0_2 m d L ftc hchk) Finset.univ) = tgtK m d L := by
    refine (View.write_whole_univ (Val := Elt F) cc0_scratch4 ftg (tile_body.sl.dma0_2 m d L ftc hchk)).trans ?_
    funext k
    exact tgt_copy m d L hpre htgt (k0_off2_inb L _ hchk) k
  have hsub : ∀ (o : ℕ) (h : o + 16 ≤ 64) (inb : ∀ a, (![o] : Fin 1 → ℕ) a + S16.size a ≤ S64.size a),
      subf (s := S16) (φ := .f32) (View.readAt (Elt F) gtV.view (Rect.unit (s := S64) ![o] S16.size inb).toLoadRect
          (gtV.view.writes (Elt F) gtV.view.junk [⟨Rect.whole S64, tile_body.sl.gather0 m d L fla hin⟩]))
        (View.readAt (Elt F) tgV.view (Rect.unit (s := S64) ![o] S16.size inb).toLoadRect
          (View.write (Elt F) tgV.view ftg (tile_body.sl.dma0_2 m d L ftc hchk) Finset.univ))
      = part16 o h fun k => FloatOps.subf (gotK m d L k) (tgtK m d L k) := by
    intro o h inb
    rw [load16 _ _ o h inb, load16 _ _ o h inb, hgot, htg]; rfl
  have hlo : loV.view.read (Elt F) (loV.view.writes (Elt F) flo (tile_body.sl.Hlo'_4 m d L fla ftc ftg hchk hin))
      = fun k => FloatOps.subf (gotK m d L k) (tgtK m d L k) := by
    refine store16 (Val := Elt F) loV.view flo _ _ _ _ _ ?_ ?_ ?_ ?_
    · exact (diff0 _ _).trans (hsub 0 (by omega) inb_S64_S16_0)
    · exact (diff1 _ _).trans (hsub 16 (by omega) inb_S64_S16_16)
    · exact (diff2 _ _).trans (hsub 32 (by omega) inb_S64_S16_32)
    · exact (diff3 _ _).trans (hsub 48 (by omega) inb_S64_S16_48)
  have hout : ∀ i ∈ (oRowK L).view.set, (oRowK L).view.writes (Elt F) (m (oLoc d)) [⟨Rect.whole S64, tile_body.sl.dma16 m d L fla ftc ftg flo hchk hin⟩] i
      = outV m d i := by
    intro i hi
    obtain ⟨k, -, rfl⟩ := Finset.mem_map.mp hi
    refine (View.read_writes_cons_hit (oRowK L).view (m (oLoc d)) (Rect.whole S64) (tile_body.sl.dma16 m d L fla ftc ftg flo hchk hin) [] k k
      (Rect.emb_whole_apply S64 k)).trans ?_
    refine Eq.trans ?_ (congrArg (outV m d) (emb_row3 L k)).symm
    rw [outV_gix]
    exact congrFun hlo k
  sl_step
  isplitl [HxL HxR Hl' Ht' Ho']
  · isplitl [HxL HxR]
    · iapply (pointsTo_share (PosShare.mem_left_op_right (shr (jL L)))).2
      isplitl [HxL] <;> iassumption
    isplitl [Hl']; · iapply (Entails.of_eq (pts_lRowK (F := F) d L _)); iexact Hl'
    isplitl [Ht']; · iexact Ht'
    iapply (Entails.of_eq (pts_oRowK (F := F) d L _))
    iapply (Entails.of_eq (pointsTo_congr hout))
    iexact Ho'
  isplitl [Hla' Htc' Hix' Hgt' Htg' Hlo' Hbufs]
  · isplitl [Hla']; · iexists _; iexact Hla'
    isplitl [Htc']; · iexists _; iexact Htc'
    isplitl [Hix']; · iexists _; iexact Hix'
    isplitl [Hgt']; · iexists _; iexact Hgt'
    isplitl [Htg']; · iexists _; iexact Htg'
    isplitl [Hlo']; · iexists _; iexact Hlo'
    iexact Hbufs
  isplitl [HsA HsB HsC HsD HsE Hsems]
  · isplitl [HsA]; · iexact HsA
    isplitl [HsB]; · iexact HsB
    isplitl [HsC]; · iexact HsC
    isplitl [HsD]; · iexact HsD
    isplitl [HsE]; · iexact HsE
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.Run

end
-- ==== Proof.Launch.lean ====
/-
  From one task to the whole program: the sixteen tasks' rows and shares, the host operations before the call, and the run
  of every thread of the mesh. Whatever the float type, the result ends at `outV` and the caller's three arrays are as they
  were.
-/
module

public import proofs.«01_k».proof.Proof.Tile

@[expose] public section

noncomputable section

namespace Cert.Proof.Run

open Cert.KernelIdeal Cert.KernelIdeal.Gen Cert.Proof.Words

open Idealize.ShloMosaic Idealize.ShloMosaic.ValueIdx
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The obligation of a task -/

section Obligation

variable [FloatOps F]

/-- The coordinates of the task on SparseCore `c`'s subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s)
          xV (Memref.isWhole_whole _) lV (Memref.isWhole_whole _) tV (Memref.isWhole_whole _) oV (Memref.isWhole_whole _)
          laV (Memref.isWhole_whole _) tcV (Memref.isWhole_whole _) ixV (Memref.isWhole_whole _) gtV (Memref.isWhole_whole _)
          tgV (Memref.isWhole_whole _) loV (Memref.isWhole_whole _) cc0_scratch6 cc0_scratch7 cc0_scratch8 cc0_scratch9 cc0_scoped0) ⟨⟩ c s := rfl

/-- The waits a task records are of its own copies, which is less than the launch allows it. -/
theorem weaken_waits {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; intro p hp
    rcases hW' p hp with h | h
    · exact .inl h
    · exact .inr (.inl h)
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => weaken_waits)

end Obligation

/-! ## The rows and the shares -/

/-- The sixteen rows of sixty-four are disjoint and make up the array. -/
theorem lRowSet_eq (i : Fin 16) : lRowSet i = (row i).set := (View.set_slice _ _).trans Finset.map_refl
theorem oRowSet_eq (i : Fin 16) : oRowSet i = (row i).set := (View.set_slice _ _).trans Finset.map_refl

theorem lPts_rows (d : Dev nD) (f : Buf (Elt F) (lLoc d)) :
    (lLoc d ↦{fullShare} f : sProp 𝕄) = bigSep Finset.univ fun i : Fin 16 => lLoc d ↦[lRowSet i]{fullShare} f := by
  rw [← pointsTo_biUnion Finset.univ (ℓ := lLoc d) lRowSet fun i _ j _ h => by rw [lRowSet_eq, lRowSet_eq]; exact Rect.part_disjoint rdiv h,
    (Finset.biUnion_congr rfl fun i _ => lRowSet_eq i).trans (Rect.biUnion_part rdiv)]; try rfl
theorem oPts_rows (d : Dev nD) (f : Buf (Elt F) (oLoc d)) :
    (oLoc d ↦{fullShare} f : sProp 𝕄) = bigSep Finset.univ fun i : Fin 16 => oLoc d ↦[oRowSet i]{fullShare} f := by
  rw [← pointsTo_biUnion Finset.univ (ℓ := oLoc d) oRowSet fun i _ j _ h => by rw [oRowSet_eq, oRowSet_eq]; exact Rect.part_disjoint rdiv h,
    (Finset.biUnion_congr rfl fun i _ => oRowSet_eq i).trans (Rect.biUnion_part rdiv)]; try rfl
theorem xPts_shares (d : Dev nD) (f : Buf (Elt F) (xLoc d)) :
    (xLoc d ↦{fullShare} f : sProp 𝕄) = bigSep Finset.univ fun i : Fin 16 => xLoc d ↦{shr i} f := pointsTo_piecesOf Finset.univ f _ fullShare
theorem tPts_shares (d : Dev nD) (f : Buf (Elt F) (tLoc d)) :
    (tLoc d ↦{fullShare} f : sProp 𝕄) = bigSep Finset.univ fun i : Fin 16 => tLoc d ↦{shr i} f := pointsTo_piecesOf Finset.univ f _ fullShare

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable [FloatOps F]

/-- The call's four arrays are the sixteen tasks' shares and rows of them, at any contents `f` of the result. -/
theorem callRes_tasks (d : Dev nD) (f : Buf (Elt F) (oLoc d)) :
    (callRes m d f : sProp 𝕄) = bigSep Finset.univ fun i : Fin 16 => iprop(xShPts m d i ∗ lRowPts m d i ∗ tShPts m d i ∗ oRowPts d i f) := by
  rw [bigSep_sep', bigSep_sep', bigSep_sep', ← xPts_shares, ← lPts_rows, ← tPts_shares, ← oPts_rows]

/-- What the call takes is dealt to the tasks, and what they bring back is what the call gives. -/
theorem vecSplit : (K (F := F)).VecSplit' (P m) 0 := by
  intro d c
  show callRes m d (m (oLoc d)) ⊢ |={Set.univ}=> iprop(
      (bigSep Finset.univ fun i : Fin ((K (F := F)).nSub 0) => goRes m d (Fin.cast nSub_zero i))
      ∗ ((bigSep Finset.univ fun i : Fin ((K (F := F)).nSub 0) => tdRes m d (Fin.cast nSub_zero i)) -∗ callRes m d (outV m d)))
  rw [bigSep_tasks (F := F) (goRes m d), bigSep_tasks (F := F) (tdRes m d), callRes_tasks, callRes_tasks]
  iintro H; imodintro
  isplitl [H]; · iexact H
  iintro H; iexact H

/-! ## The ghost state at the launch -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) :=
    (bigSep_congr fun _ _ => bigSep_univ_of_subsingleton (0 : Fin 1)).trans (bigSep_emp_const _)
  rw [hx, show (bigSep Finset.univ fun _ : Dev nD => (iprop(emp) : sProp 𝕄)) = iprop(emp) from bigSep_emp_const _]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The TensorCore's program -/

abbrev a' : DevRef τ sig := Proc.devRef .tc (main_arg0 : Ref sig .tc)
abbrev l' : DevRef τ sig := Proc.devRef .tc (main_arg1 : Ref sig .tc)
abbrev g' : DevRef τ sig := Proc.devRef .tc (main_arg2 : Ref sig .tc)
abbrev b' : DevRef τ sig := Proc.devRef .tc (main_v0 : Ref sig .tc)
abbrev c' : DevRef τ sig := Proc.devRef .tc (main_v1 : Ref sig .tc)
abbrev x' : DevRef τ sig := Proc.devRef .tc (main_v2 : Ref sig .tc)
abbrev t' : DevRef τ sig := Proc.devRef .tc (main_v3 : Ref sig .tc)
abbrev o' : DevRef τ sig := Proc.devRef .tc (main_v4 : Ref sig .tc)

/-- The four host operations before the call. -/
abbrev opSplit : HloOp τ sig (Elt F) := StableHlo.reshape main_arg0 main_v0 (rfl : (.f32 : EltTy) = .f32) shapeCasts_S1024x100000_S8x128x12500x8
abbrev opTurn : HloOp τ sig (Elt F) :=
  StableHlo.unary main_v0 main_v1 ((transpose S12500x8x8x128 [2, 0, 3, 1] · transposes_S8x128x12500x8_S12500x8x8x128_2_0_3_1) :
    (⟨S8x128x12500x8, .f32⟩ : BufTy).Contents (Elt F) → (⟨S12500x8x8x128, .f32⟩ : BufTy).Contents (Elt F))
abbrev opFlat : HloOp τ sig (Elt F) := StableHlo.reshape main_v1 main_v2 (rfl : (.f32 : EltTy) = .f32) shapeCasts_S12500x8x8x128_S102400000
abbrev opTgt : HloOp τ sig (Elt F) :=
  StableHlo.unary main_arg2 main_v3 (broadcastInDim S16 ![] bcast_S_S16 : (⟨S_, .i32⟩ : BufTy).Contents (Elt F) → (⟨S16, .i32⟩ : BufTy).Contents (Elt F))

/-- The arrays of the TensorCore. -/
abbrev S8 : Finset (DevRef τ sig) := {a', l', g', b', c', x', t', o'}

theorem held_S8 (d : Dev nD) (W : Valuation τ sig (Elt F)) :
    (held (T d) S8 W : sProp 𝕄)
      = iprop((aLoc d ↦{fullShare} W a') ∗ (lLoc d ↦{fullShare} W l') ∗ (gLoc d ↦{fullShare} W g') ∗ (bLoc d ↦{fullShare} W b')
          ∗ (cLoc d ↦{fullShare} W c') ∗ (xLoc d ↦{fullShare} W x') ∗ (tLoc d ↦{fullShare} W t') ∗ oLoc d ↦{fullShare} W o') := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- What the arrays hold at the launch, and before the call. -/
def V0 (d : Dev nD) : Valuation τ sig (Elt F) := fun b => m (d, b)
abbrev V1 (d : Dev nD) : Valuation τ sig (Elt F) := (opSplit (F := F)).result (V0 m d)
abbrev V2 (d : Dev nD) : Valuation τ sig (Elt F) := (opTurn (F := F)).result (V1 m d)
abbrev V3 (d : Dev nD) : Valuation τ sig (Elt F) := (opFlat (F := F)).result (V2 m d)
abbrev V4 (d : Dev nD) : Valuation τ sig (Elt F) := (opTgt (F := F)).result (V3 m d)

theorem launch_held (d : Dev nD) : (unscopedBufs d (fun b => m ((SparseCore.T d).loc b)) : sProp 𝕄) = held (T d) S8 (V0 m d) := by
  unfold unscopedBufs
  rw [show (Finset.univ.filter fun b : Ref sig .tc => ¬ b.isScoped) = {main_arg0, main_arg1, main_arg2, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton, held_S8]
  rfl

/-- An array that no host operation writes is as it was at the launch. -/
theorem V4_keep (d : Dev nD) (b : DevRef τ sig) (h0 : b ≠ b') (h1 : b ≠ c') (h2 : b ≠ x') (h3 : b ≠ t') : V4 m d b = m (d, b) := by
  unfold V4 V3 V2 V1 V0
  rw [(opTgt (F := F)).result_of_not_mem _ (show b ∉ ({t'} : Finset (DevRef τ sig)) from fun h => h3 (Finset.mem_singleton.mp h)),
    (opFlat (F := F)).result_of_not_mem _ (show b ∉ ({x'} : Finset (DevRef τ sig)) from fun h => h2 (Finset.mem_singleton.mp h)),
    (opTurn (F := F)).result_of_not_mem _ (show b ∉ ({c'} : Finset (DevRef τ sig)) from fun h => h1 (Finset.mem_singleton.mp h)),
    (opSplit (F := F)).result_of_not_mem _ (show b ∉ ({b'} : Finset (DevRef τ sig)) from fun h => h0 (Finset.mem_singleton.mp h))]

/-- Before the call the flat logits are in place, -/
theorem V4_x (d : Dev nD) : V4 m d x' = flatV m d := by
  unfold V4 V3 V2 V1
  rw [(opTgt (F := F)).result_of_not_mem _ (show x' ∉ ({t'} : Finset (DevRef τ sig)) by decide)]
  refine (StableHlo.reshape_result main_v1 main_v2 _ _ _ _ _).trans ?_
  funext i
  refine congrFun (congrArg (fun y => shapeCast S102400000 y shapeCasts_S12500x8x8x128_S102400000) ?_) i
  refine (StableHlo.unary_result main_v0 main_v1 _ _ _ _).trans ?_
  refine congrArg (fun y => transpose S12500x8x8x128 [2, 0, 3, 1] y transposes_S8x128x12500x8_S12500x8x8x128_2_0_3_1) ?_
  exact StableHlo.reshape_result main_arg0 main_v0 _ _ _ _ _

/-- and the copies of the target. -/
theorem V4_t (d : Dev nD) : V4 m d t' = tgtV m d := by
  unfold V4
  refine (StableHlo.unary_result main_arg2 main_v3 _ _ _ _).trans ?_
  have hg : V3 m d g' = m (gLoc d) := by
    unfold V3 V2 V1 V0
    rw [(opFlat (F := F)).result_of_not_mem _ (show g' ∉ ({x'} : Finset (DevRef τ sig)) by decide),
      (opTurn (F := F)).result_of_not_mem _ (show g' ∉ ({c'} : Finset (DevRef τ sig)) by decide),
      (opSplit (F := F)).result_of_not_mem _ (show g' ∉ ({b'} : Finset (DevRef τ sig)) by decide)]
  refine (congrArg (broadcastInDim S16 ![] bcast_S_S16 : (⟨S_, .i32⟩ : BufTy).Contents (Elt F) → (⟨S16, .i32⟩ : BufTy).Contents (Elt F)) hg).trans ?_
  funext i
  exact congrArg (m (gLoc d) : S_.Idx → BitVec 32) (funext fun a => a.elim0)

/-- The arrays before the call. -/
theorem held_V4 (d : Dev nD) :
    (held (T d) S8 (V4 m d) : sProp 𝕄)
      = iprop((aLoc d ↦{fullShare} m (aLoc d)) ∗ (lLoc d ↦{fullShare} m (lLoc d)) ∗ (gLoc d ↦{fullShare} m (gLoc d)) ∗ (bLoc d ↦{fullShare} V4 m d b')
          ∗ (cLoc d ↦{fullShare} V4 m d c') ∗ (xLoc d ↦{fullShare} (flatV m d : Buf (Elt F) (xLoc d)))
          ∗ (tLoc d ↦{fullShare} (tgtV m d : Buf (Elt F) (tLoc d))) ∗ oLoc d ↦{fullShare} m (oLoc d)) := by
  rw [held_S8, V4_x, V4_t, V4_keep m d a' (by decide) (by decide) (by decide) (by decide), V4_keep m d l' (by decide) (by decide) (by decide) (by decide),
    V4_keep m d g' (by decide) (by decide) (by decide) (by decide), V4_keep m d o' (by decide) (by decide) (by decide) (by decide)]

theorem st0_eq (d : Dev nD) : (bigSep Finset.univ fun c : Fin ((K (F := F)).nCore 0) => (P m).st 0 d c) = callRes m d (m (oLoc d)) :=
  bigSep_univ_of_subsingleton (0 : Fin 1)
theorem dn0_eq (d : Dev nD) : (bigSep Finset.univ fun c : Fin ((K (F := F)).nCore 0) => (P m).dn 0 d c) = callRes m d (outV m d) :=
  bigSep_univ_of_subsingleton (0 : Fin 1)

/-- What the program leaves to be read at the end: the caller's arrays as they were, the result at its values. -/
abbrev FIN (d : Dev nD) : sProp 𝕄 :=
  iprop((aLoc d ↦{fullShare} m (aLoc d)) ∗ (lLoc d ↦{fullShare} m (lLoc d)) ∗ (gLoc d ↦{fullShare} m (gLoc d))
    ∗ oLoc d ↦{fullShare} (outV m d : Buf (Elt F) (oLoc d)))

/-- The TensorCore's program: four host operations, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held]
  simp only [main, wp_bind, wp_pure]
  iintro ⟨#Hctx, Hst, ⟨Hb, Hh, Hts, -⟩, -⟩
  iapply (wp_hlo_within 𝒱 (SparseCore.T d) none Set.univ (op := opSplit) (S := S8) (show ({a', b'} : Finset (DevRef τ sig)) ⊆ S8 by decide) (V := V0 m d)) $$ [Hb Hh]
  · isplitl [Hb] <;> iassumption
  iintro ⟨Hb, Hh⟩
  rw [wp_ret]; imodintro
  iapply (wp_hlo_within 𝒱 (SparseCore.T d) none Set.univ (op := opTurn) (S := S8) (show ({b', c'} : Finset (DevRef τ sig)) ⊆ S8 by decide) (V := V1 m d)) $$ [Hb Hh]
  · isplitl [Hb] <;> iassumption
  iintro ⟨Hb, Hh⟩
  rw [wp_ret]; imodintro
  iapply (wp_hlo_within 𝒱 (SparseCore.T d) none Set.univ (op := opFlat) (S := S8) (show ({c', x'} : Finset (DevRef τ sig)) ⊆ S8 by decide) (V := V2 m d)) $$ [Hb Hh]
  · isplitl [Hb] <;> iassumption
  iintro ⟨Hb, Hh⟩
  rw [wp_ret]; imodintro
  iapply (wp_hlo_within 𝒱 (SparseCore.T d) none Set.univ (op := opTgt) (S := S8) (show ({g', t'} : Finset (DevRef τ sig)) ⊆ S8 by decide) (V := V3 m d)) $$ [Hb Hh]
  · isplitl [Hb] <;> iassumption
  iintro ⟨Hb, Hh⟩
  rw [wp_ret]; imodintro
  ihave Hh := (Entails.of_eq (held_V4 (F := F) m d)) $$ Hh
  icases Hh with ⟨Ha, Hl, Hg, -, -, Hx, Ht, Ho⟩
  iapply ((K (F := F)).wp_run (D (F := F)) 𝒱 (EH := EH) (P := P m) κ d 0) $$ [Hst Hx Hl Ht Ho Hb Ha Hg Hts]
  isplitr; · iexact Hctx
  isplitl [Hst]; · iexact Hst
  isplitl [Hx Hl Ht Ho]
  · rw [st0_eq]
    isplitl [Hx]; · iexact Hx
    isplitl [Hl]; · iexact Hl
    isplitl [Ht]; · iexact Ht
    iexact Ho
  iintro ⟨Hst, Hdn⟩
  ihave Hdn' := (Entails.of_eq (dn0_eq m d)) $$ Hdn
  icases Hdn' with ⟨-, Hl, -, Ho⟩
  imodintro
  isplitl [Hst]; · iexact Hst
  isplitr [Hb Hts]
  · isplitl [Ha]; · iexact Ha
    isplitl [Hl]; · iexact Hl
    isplitl [Hg]; · iexact Hg
    iexact Ho
  isplitl [Hb] <;> iassumption

/-- What the claims read of a device at the end. -/
def fq (d : Dev nD) (s' : Phys nD τ sig (Elt F)) : Prop :=
  s'.mem.mem (oLoc d) = outV m d ∧ s'.mem.mem (aLoc d) = m (aLoc d) ∧ s'.mem.mem (lLoc d) = m (lLoc d) ∧ s'.mem.mem (gLoc d) = m (gLoc d)

/-- An array held whole at known contents is that in the memory. -/
theorem mem_of_held (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  iintro ⟨⟨Ha, Hl, Hg, Ho⟩, HSI⟩
  ihave H := (mem_of_held s' (aLoc d) (m (aLoc d))) $$ [HSI Ha]
  · isplitl [HSI] <;> iassumption
  icases H with ⟨%ha, HSI⟩
  ihave H := (mem_of_held s' (lLoc d) (m (lLoc d))) $$ [HSI Hl]
  · isplitl [HSI] <;> iassumption
  icases H with ⟨%hl, HSI⟩
  ihave H := (mem_of_held s' (gLoc d) (m (gLoc d))) $$ [HSI Hg]
  · isplitl [HSI] <;> iassumption
  icases H with ⟨%hg, HSI⟩
  ihave H := (mem_of_held s' (oLoc d) (outV m d)) $$ [HSI Ho]
  · isplitl [HSI] <;> iassumption
  icases H with ⟨%ho, -⟩
  ipureintro; exact ⟨ho, ha, hl, hg⟩

/-- The end of the program: on every device the result is `outV` and the caller's arrays are as they were; every
    semaphore is at zero. -/
def QC : PUnit × MemSt nD τ sig (Elt F) → Prop := fun r =>
  (∀ c : Dev nD, r.2.mem (oLoc c) = outV m c ∧ r.2.mem (aLoc c) = m (aLoc c) ∧ r.2.mem (lLoc c) = m (lLoc c) ∧ r.2.mem (gLoc c) = m (gLoc c))
    ∧ r.2.sem = fun _ => 0

/-- From any memory whose labels and target are classes, every run of the program ends so. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Run

end
-- ==== Proof.Layout.lean ====
/-
  The layout: the flat array holds, at the position of class `v` of row `b`, the logit of row `b` at class `v`. Hence the
  array the kernel writes is the loss.
-/
module

public import proofs.«01_k».proof.Proof.Setup
public import Idealize.ShloMosaic.Lib.Pipeline.Value

@[expose] public section

noncomputable section

namespace Cert.Proof.Run

open Cert.KernelIdeal Cert.KernelIdeal.Gen Cert.Proof.Words
open Idealize.ShloMosaic Idealize.ShloMosaic.ValueIdx

/-- The flat array of any logits, at a position. -/
theorem flat_at {α : Type} (x : S1024x100000.Idx → α) (v : Fin 100000) (b : Fin 1024) :
    shapeCast S102400000 (transpose S12500x8x8x128 [2, 0, 3, 1] (shapeCast S8x128x12500x8 x shapeCasts_S1024x100000_S8x128x12500x8)
      transposes_S8x128x12500x8_S12500x8x8x128_2_0_3_1) shapeCasts_S12500x8x8x128_S102400000 (flatIx (pos v.val b.val)) = x (ix2 b v) := by
  have hv := v.isLt
  have hb := b.isLt
  have hp := pos_lt hv hb
  refine (shapeCast_apply _ _ _ (ix4 (⟨v.val / 8, by omega⟩ : Fin 12500) (⟨b.val / 128, by omega⟩ : Fin 8) (⟨v.val % 8, by omega⟩ : Fin 8)
    (⟨b.val % 128, by omega⟩ : Fin 128)) ?_).trans ?_
  · rw [Shape.rowMajor_val_four, Shape.rowMajor_val_one]
    show ((v.val / 8 * 8 + b.val / 128) * 8 + v.val % 8) * 128 + b.val % 128 = pos v.val b.val % 102400000
    rw [Nat.mod_eq_of_lt hp]; unfold pos; omega
  refine (transpose_apply _ _ _ _ (ix4 (⟨b.val / 128, by omega⟩ : Fin 8) (⟨b.val % 128, by omega⟩ : Fin 128) (⟨v.val / 8, by omega⟩ : Fin 12500)
    (⟨v.val % 8, by omega⟩ : Fin 8)) ?_).trans ?_
  · intro a
    match a with | ⟨0, _⟩ => rfl | ⟨1, _⟩ => rfl | ⟨2, _⟩ => rfl | ⟨3, _⟩ => rfl
  refine shapeCast_apply _ _ _ _ ?_
  rw [Shape.rowMajor_val_four, Shape.rowMajor_val_two]
  show b.val * 100000 + v.val = ((b.val / 128 * 128 + b.val % 128) * 12500 + v.val / 8) * 8 + v.val % 8
  omega

variable {F : FTy → Type} [FloatOps F] (m : (ℓ : Loc nD τ sig) → Buf (Elt F) ℓ)

/-- The kernel's result, read off the caller's arrays: row by row, the logit at the label minus the logit at the target. -/
theorem outV_eq (hpre : PreOK m) (d : Dev nD) (j : S1024.Idx) :
    outV m d j = FloatOps.subf ((m (aLoc d) : S1024x100000.Idx → F .f32) (ix2 (j 0) (⟨(labW m d j).toNat, (hpre d).1 j⟩ : Fin 100000)))
      ((m (aLoc d) : S1024x100000.Idx → F .f32) (ix2 (j 0) (⟨(tgtW m d).toNat, (hpre d).2⟩ : Fin 100000))) :=
  congrArg₂ FloatOps.subf (flat_at (m (aLoc d) : S1024x100000.Idx → F .f32) ⟨(labW m d j).toNat, (hpre d).1 j⟩ (j 0))
    (flat_at (m (aLoc d) : S1024x100000.Idx → F .f32) ⟨(tgtW m d).toNat, (hpre d).2⟩ (j 0))

end Cert.Proof.Run

end
-- ==== Proof.Pre.lean ====
/-
  What the precondition gives: where it is all ones, every label and the target is a class, that is, a word whose value is
  below 100000.
-/
module

public import proofs.«01_k».proof.Proof.Setup
public import proofs.«01_k».proof.Defs
public import proofs.«01_k».proof.Proof.Gen.Pre_in_range
public import Idealize.ShloMosaic.Lib.ReduceAll
public import Idealize.ShloMosaic.Lib.WordCmp

@[expose] public section

noncomputable section

namespace Cert.Proof.Pre

open Idealize.ShloMosaic Idealize.ShloMosaic.ValueIdx

/-- A word at least 0 and less than 100000, as signed words compare, has its value below 100000. -/
theorem class_of_cmp (v : BitVec 32) (h0 : IntOp.cmpi .sge v 0#32 = 1#1) (h1 : IntOp.cmpi .slt v 100000#32 = 1#1) : v.toNat < 100000 := by
  have one (p : Bool) (h : BitVec.ofBool p = 1#1) : p = true := by cases p <;> simp_all
  have a := one _ h0
  have b := one _ h1
  simp only [BitVec.sle_eq_decide, BitVec.slt_eq_decide, decide_eq_true_eq, BitVec.toInt_eq_toNat_cond, BitVec.toNat_ofNat, Nat.reducePow, Nat.reduceMod] at a b
  omega

/-- A conjunction of two bits that is one has both at one. -/
theorem both_of_and (x y : BitVec 1) (h : IntOp.andi x y = 1#1) : x = 1#1 ∧ y = 1#1 := by
  revert x y; decide

/-- The precondition all ones: the labels and the target are classes. -/
theorem classes_of_pre {F : FTy → Type} [FloatOps F] (x : FVec F Cert.Pre_in_range.S1024x100000 .f32) (l : IVec Cert.Pre_in_range.S1024 32)
    (t : IVec Cert.Pre_in_range.S_ 32) (h : Cert.Pre_in_range.fn (F := F) x l t = fun _ => 1#1) :
    (∀ j, (l j).toNat < 100000) ∧ (t ix0).toNat < 100000 := by
  have h := congrFun h ix0
  dsimp only [Cert.Pre_in_range.fn] at h
  obtain ⟨h, ht1⟩ := both_of_and _ _ h
  obtain ⟨h, ht0⟩ := both_of_and _ _ h
  obtain ⟨hl0, hl1⟩ := both_of_and _ _ h
  haveI : Subsingleton Cert.Pre_in_range.S_.Idx := ⟨fun a b => funext fun i => i.elim0⟩
  exact ⟨fun j => class_of_cmp _ (Host.reduce_andi_all _ _ _ _ _ hl0 j) (Host.reduce_andi_all _ _ _ _ _ hl1 j), class_of_cmp _ ht0 ht1⟩

/-- The precondition of the kernel as run gives what its run asks of the memory, -/
theorem ok_of_pre (m : (ℓ : Loc Cert.Kernel.nD Cert.Kernel.τ Cert.Kernel.sig) → Buf (Elt Bits) ℓ) (h : Cert.Pre_Kernel m) :
    Run.PreOK (F := Bits) m := fun d => classes_of_pre _ _ _ (h d)

/-- and so does the precondition of the kernel read over the reals. -/
theorem ok_of_pre_ideal (m : (ℓ : Loc Cert.KernelIdeal.nD Cert.KernelIdeal.τ Cert.KernelIdeal.sig) → Buf (Elt Ideal) ℓ)
    (h : Cert.Pre_KernelIdeal m) : Run.PreOK (F := Ideal) m := fun d => classes_of_pre _ _ _ (h d)

end Cert.Proof.Pre

end
-- ==== Proof.Ref.lean ====
/-
  What the reference computes. It pairs each row with the class it reads there, wrapping a negative one, and gathers the
  pairs out of the logits; with labels and target in range nothing wraps, so the result's element `b` is the logit of row
  `b` at its label minus the logit of row `b` at the target.
-/
module

public import proofs.«01_k».proof.Proof.Gen.ReferenceIdeal.Run
public import Idealize.ShloMosaic.Lib.ValueIdx
public import Idealize.ShloMosaic.Lib.WordCmp
public import Idealize.ShloMosaic.Lib.Pipeline.Value

@[expose] public section

noncomputable section

namespace Cert.Proof.Ref

open Cert.ReferenceIdeal Cert.ReferenceIdeal.Gen
open Idealize.ShloMosaic Idealize.ShloMosaic.ValueIdx Idealize.SL.Sem
open Idealize.ShloMosaic.TcCoe

/-- An index with a negative one moved up by `n`. -/
abbrev wrap (n : BitVec 32) (v : IVec S1024 32) : IVec S1024 32 :=
  select (cmpi .slt v (broadcastInDim S1024 ![] bcast_S_S1024 (constantI S_ 32 0#32))) (addi v (broadcastInDim S1024 ![] bcast_S_S1024 (constantI S_ 32 n))) v

/-- An index that is not negative stays. -/
theorem wrap_of_lt (n : BitVec 32) (v : IVec S1024 32) (j : S1024.Idx) (h : (v j).toNat < 2 ^ 31) : wrap n v j = v j := by
  have e : cmpi .slt v (broadcastInDim S1024 ![] bcast_S_S1024 (constantI S_ 32 0#32)) j = 0#1 := by
    show IntOp.cmpi .slt (v j) 0#32 = 0#1
    have : ((v j).slt 0#32) = false := by
      simp only [BitVec.slt_eq_decide, decide_eq_false_iff_not, BitVec.toInt_eq_toNat_of_lt (show 2 * (v j).toNat < 2 ^ 32 by omega), BitVec.toInt_zero]
      omega
    show BitVec.ofBool ((v j).slt 0#32) = 0#1
    rw [this]; rfl
  show (if cmpi .slt v (broadcastInDim S1024 ![] bcast_S_S1024 (constantI S_ 32 0#32)) j = 1#1 then _ else _) = _
  rw [e, if_neg (by decide)]

/-- The table of pairs: the row in column 0, the class in column 1. -/
abbrev pairs (r c : IVec S1024 32) : IVec S1024x2 32 :=
  concatenate S1024x2 1 [⟨S1024x1, broadcastInDim S1024x1 ![0] bcast_S1024_S1024x1_0 r⟩, ⟨S1024x1, broadcastInDim S1024x1 ![0] bcast_S1024_S1024x1_0 c⟩]
    concatenates_S1024x1_S1024x1_S1024x2_d1

theorem pairs_row (r c : IVec S1024 32) (b : Fin 1024) : pairs r c (ix2 b (0 : Fin 2)) = r (ix1 b) := by
  refine (concatenate_pair_apply_left (s₁ := S1024x1) (s₂ := S1024x1) (t := S1024x2) 1 _ _ concatenates_S1024x1_S1024x1_S1024x2_d1 (ix2 b (0 : Fin 2)) rfl
    (ix2 b (0 : Fin 1)) fun a => match a with | ⟨0, _⟩ => rfl | ⟨1, _⟩ => rfl).trans ?_
  exact congrArg r (funext fun a => match a with | ⟨0, _⟩ => rfl)

theorem pairs_class (r c : IVec S1024 32) (b : Fin 1024) : pairs r c (ix2 b (1 : Fin 2)) = c (ix1 b) := by
  refine (concatenate_pair_apply_right (s₁ := S1024x1) (s₂ := S1024x1) (t := S1024x2) 1 _ _ concatenates_S1024x1_S1024x1_S1024x2_d1 (ix2 b (1 : Fin 2)) rfl rfl
    (ix2 b (0 : Fin 1)) (fun a ha => match a with | ⟨0, _⟩ => rfl | ⟨1, _⟩ => absurd rfl ha) rfl).trans ?_
  exact congrArg c (funext fun a => match a with | ⟨0, _⟩ => rfl)

/-- The gather at `b`: the operand at the pair's row and class, each clamped into the operand. -/
theorem gather_pair {α : Type} (x : S1024x100000.Idx → α) (p : IVec S1024x2 32) (b : Fin 1024) :
    Host.gather gather_S1024x100000_S1024x2_S1024_n_01_n_n_01_1_11 x p (ix1 b)
      = x (ix2 (⟨min (p (ix2 b (0 : Fin 2))).toInt.toNat 1023, by omega⟩ : Fin 1024) (⟨min (p (ix2 b (1 : Fin 2))).toInt.toNat 99999, by omega⟩ : Fin 100000)) := by
  unfold Host.gather
  refine congrArg x (funext fun a => Fin.ext ?_)
  show GatherDims.start _ (ix1 b) p a + GatherDims.batchCoord _ (ix1 b) a + GatherDims.offCoord _ (ix1 b) a = _
  rw [GatherDims.batchCoord_eq_zero _ _ _ List.not_mem_nil,
    GatherDims.offCoord_eq_zero _ _ _ (fun h => ((GatherDims.mem_sKept _ _).mp h).1 (by
      match a with | ⟨0, _⟩ => exact List.mem_cons_self | ⟨1, _⟩ => exact List.mem_cons_of_mem _ List.mem_cons_self))]
  simp only [Nat.add_zero]
  unfold GatherDims.start
  match a with
  | ⟨0, _⟩ =>
    refine (dif_pos (show (0 : Fin 2) ∈ gather_S1024x100000_S1024x2_S1024_n_01_n_n_01_1_11.startIndexMap from List.mem_cons_self)).trans ?_
    refine congrArg (fun q => min (p q).toInt.toNat 1023) (funext fun c => ?_)
    match c with | ⟨0, _⟩ => rfl | ⟨1, _⟩ => rfl
  | ⟨1, _⟩ =>
    refine (dif_pos (show (1 : Fin 2) ∈ gather_S1024x100000_S1024x2_S1024_n_01_n_n_01_1_11.startIndexMap from List.mem_cons_of_mem _ List.mem_cons_self)).trans ?_
    refine congrArg (fun q => min (p q).toInt.toNat 99999) (funext fun c => ?_)
    match c with | ⟨0, _⟩ => rfl | ⟨1, _⟩ => rfl

/-- The logits gathered by rows in order and classes `v`: row `b` at class `v b`, when it is a class. -/
theorem gather_class {α : Type} (x : S1024x100000.Idx → α) (v : IVec S1024 32) (b : Fin 1024) (h : (v (ix1 b)).toNat < 100000) :
    Host.gather gather_S1024x100000_S1024x2_S1024_n_01_n_n_01_1_11 x (pairs (wrap 1024#32 (iotaInDim S1024 32 0)) (wrap 100000#32 v)) (ix1 b)
      = x (ix2 b (⟨(v (ix1 b)).toNat, h⟩ : Fin 100000)) := by
  have hb := b.isLt
  have hi : (iotaInDim S1024 32 0 (ix1 b)).toNat = b.val := by
    show (BitVec.ofNat 32 b.val).toNat = b.val
    rw [BitVec.toNat_ofNat]; exact Nat.mod_eq_of_lt (by omega)
  have nat (w : BitVec 32) (hw : w.toNat < 2 ^ 31) : w.toInt.toNat = w.toNat := by
    rw [BitVec.toInt_eq_toNat_of_lt (by omega)]; rfl
  rw [gather_pair]
  refine congrArg x (congrArg₂ ix2 (Fin.ext ?_) (Fin.ext ?_))
  · show min (pairs _ _ (ix2 b (0 : Fin 2))).toInt.toNat 1023 = b.val
    rw [pairs_row, wrap_of_lt _ _ _ (by rw [hi]; omega), nat _ (by rw [hi]; omega), hi]; omega
  · show min (pairs _ _ (ix2 b (1 : Fin 2))).toInt.toNat 99999 = (v (ix1 b)).toNat
    rw [pairs_class, wrap_of_lt _ _ _ (by omega), nat _ (by omega)]; omega

variable {F : FTy → Type} [FloatOps F]

/-- The loss: row by row, the logit at the label minus the logit at the target. -/
def loss (x : S1024x100000.Idx → F .f32) (l : IVec S1024 32) (t : BitVec 32) (hl : ∀ j, (l j).toNat < 100000) (ht : t.toNat < 100000) : S1024.Idx → F .f32 :=
  fun j => FloatOps.subf (x (ix2 (j 0) (⟨(l j).toNat, hl j⟩ : Fin 100000))) (x (ix2 (j 0) (⟨t.toNat, ht⟩ : Fin 100000)))

/-- Equal arguments have equal losses. -/
theorem loss_congr {x x' : S1024x100000.Idx → F .f32} {l l' : IVec S1024 32} {t t' : BitVec 32} (hx : x = x') (hl : l = l') (ht : t = t')
    (h1 : ∀ j, (l j).toNat < 100000) (h2 : t.toNat < 100000) (h1' : ∀ j, (l' j).toNat < 100000) (h2' : t'.toNat < 100000) (j : S1024.Idx) :
    loss x l t h1 h2 j = loss x' l' t' h1' h2' j := by
  subst hx; subst hl; subst ht; rfl

/-- The reference's term is the loss. -/
theorem term_eq (x : S1024x100000.Idx → F .f32) (l : IVec S1024 32) (t : S_.Idx → BitVec 32) (hl : ∀ j, (l j).toNat < 100000) (ht : (t ix0).toNat < 100000) :
    subf (Host.gather gather_S1024x100000_S1024x2_S1024_n_01_n_n_01_1_11 x (pairs (wrap 1024#32 (iotaInDim S1024 32 0)) (wrap 100000#32 l)))
        (Host.gather gather_S1024x100000_S1024x2_S1024_n_01_n_n_01_1_11 x
          (pairs (wrap 1024#32 (iotaInDim S1024 32 0)) (wrap 100000#32 (broadcastInDim S1024 ![] bcast_S_S1024 t))))
      = loss x l (t ix0) hl ht := by
  funext j
  obtain ⟨b, rfl⟩ : ∃ b : Fin 1024, j = ix1 b := ⟨j 0, eq_ix1 j⟩
  have e : ∀ q : S1024.Idx, broadcastInDim S1024 ![] bcast_S_S1024 t q = t ix0 := fun q => congrArg t (funext fun a => a.elim0)
  have h1 := gather_class x l b (hl (ix1 b))
  have h2 := gather_class x (broadcastInDim S1024 ![] bcast_S_S1024 t) b (lt_of_eq_of_lt (congrArg BitVec.toNat (e (ix1 b))) ht)
  have h3 : x (ix2 b (⟨(broadcastInDim S1024 ![] bcast_S_S1024 t (ix1 b)).toNat, lt_of_eq_of_lt (congrArg BitVec.toNat (e (ix1 b))) ht⟩ : Fin 100000))
      = x (ix2 b (⟨(t ix0).toNat, ht⟩ : Fin 100000)) := congrArg (fun q : Fin 100000 => x (ix2 b q)) (Fin.ext (congrArg BitVec.toNat (e (ix1 b))))
  exact congrArg₂ FloatOps.subf h1 (h2.trans h3)

/-- From any memory whose labels and target are classes, every run of the reference ends with the loss in its result and
    its arguments as they were. -/
theorem run_loss (m : (ℓ : Loc nD τ sig) → Buf (Elt F) ℓ) (ρ : Dev nD → PrngReg)
    (hl : ∀ (c : Dev nD) (j : S1024.Idx), ((m ((c.tc : Thread nD τ).loc main_arg1) : S1024.Idx → BitVec 32) j).toNat < 100000)
    (ht : ∀ c : Dev nD, ((m ((c.tc : Thread nD τ).loc main_arg2) : S_.Idx → BitVec 32) ix0).toNat < 100000) :
    θ_run defs (onTc (τ := τ) (main (F := F))) ⟨m, fun _ => 0, ρ⟩ fun r => ∀ c : Dev nD,
      r.2.mem ((c.tc : Thread nD τ).loc main_v30) = loss (m ((c.tc : Thread nD τ).loc main_arg0)) (m ((c.tc : Thread nD τ).loc main_arg1))
          ((m ((c.tc : Thread nD τ).loc main_arg2) : S_.Idx → BitVec 32) ix0) (hl c) (ht c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (term_eq (m ((c.tc : Thread nD τ).loc main_arg0)) (m ((c.tc : Thread nD τ).loc main_arg1))
    (m ((c.tc : Thread nD τ).loc main_arg2)) (hl c) (ht c)), (h c).2⟩) (Cert.ReferenceIdeal.Value.run m ρ)

end Cert.Proof.Ref

end
-- ==== Proof.lean ====
/-
  The claim, assembled. The kernel's run is proved once, whatever the float type (`Run.run_main`): every run ends with the
  result at `outV`, the caller's three arrays as they were and every semaphore at zero. `Run.outV_eq` reads `outV` off the
  caller's arrays, and `Ref.run_loss` gives the reference's result in the same words.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.Layout
public import proofs.«01_k».proof.Proof.Pre
public import proofs.«01_k».proof.Proof.Ref
public import Idealize.ShloMosaic.Adequacy
public import Idealize.ShloMosaic.Init

@[expose] public section

noncomputable section

namespace Cert.Proof

open Idealize.ShloMosaic Idealize.ShloMosaic.ValueIdx Idealize.SL.Sem

/-- The kernel as run: every run ends, nothing but the result changed and every semaphore at zero. -/
theorem frame_kernel : Cert.quiescent_Kernel := fun m ρ hpre =>
  (θ_run Cert.KernelIdeal.defs _ _).mono (fun _ h => ⟨fun c => (h.1 c).2, h.2⟩) (Run.run_main (F := Bits) m ρ (Pre.ok_of_pre m hpre))

/-- The kernel read over the reals: the same. -/
theorem frame_ideal : Cert.quiescent_KernelIdeal := fun m ρ hpre =>
  (θ_run Cert.KernelIdeal.defs _ _).mono (fun _ h => ⟨fun c => (h.1 c).2, h.2⟩) (Run.run_main (F := Ideal) m ρ (Pre.ok_of_pre_ideal m hpre))

/-- The reference: every run ends, its arguments unchanged. It declares no semaphore, so none is left above zero. -/
theorem frame_reference : Cert.quiescent_ReferenceIdeal := fun m ρ _ =>
  (θ_run Cert.ReferenceIdeal.defs _ _).mono (fun _ h => ⟨fun c => (h c).2, funext fun g => nomatch g.2⟩) (Cert.ReferenceIdeal.Value.run (F := Ideal) m ρ)

/-- The same under the precondition. -/
theorem frame_reference_in_range : Cert.quiescent_ReferenceIdeal_pre_in_range := fun m ρ _ => frame_reference m ρ trivial

/-- Over the extended reals the kernel and the reference end with the same result: row by row, the logit at the label
    minus the logit at the target. -/
theorem same_result : Cert.algebraic_KernelIdeal_ReferenceIdeal := by
  intro m g m' g' hpre hargs
  have hk := Pre.ok_of_pre_ideal m hpre
  refine ⟨fun c => Run.outV m c, (θ_run Cert.KernelIdeal.defs _ _).mono (fun _ h => h.1) (Run.run_main (F := Ideal) m g hk), ?_⟩
  refine (θ_run Cert.ReferenceIdeal.defs _ _).mono (fun _ h c => ⟨(h c).1.trans ?_, (h c).2⟩) (Ref.run_loss (F := Ideal) m' g'
    (fun c j => lt_of_eq_of_lt (congrArg BitVec.toNat (congrFun (hargs c).2.1 j)) ((hk c).1 j))
    (fun c => lt_of_eq_of_lt (congrArg BitVec.toNat (congrFun (hargs c).2.2 ix0)) (hk c).2))
  refine funext fun j => Eq.trans ?_ (Run.outV_eq m hk c j).symm
  exact Ref.loss_congr (hargs c).1 (hargs c).2.1 (congrFun (hargs c).2.2 ix0) _ _ ((hk c).1) ((hk c).2) j

/-- Everything claimed. -/
theorem claim : Cert.Claim :=
  ⟨Cert.Kernel.Gen.facts, Cert.KernelIdeal.Gen.facts, Cert.ReferenceIdeal.Gen.facts, Cert.Pre_in_range.Gen.facts,
    frame_kernel, frame_ideal, frame_reference, frame_reference_in_range, trivial, same_result⟩

end Cert.Proof

end
